-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_tau_log2e" .f32 0x41E6D4CA#32 ((20 * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x4096x256 : Shape := ⟨3, ![12, 4096, 256]⟩
abbrev S12x4096 : Shape := ⟨2, ![12, 4096]⟩
abbrev S12x1x4096 : Shape := ⟨3, ![12, 1, 4096]⟩
abbrev S1x512x256 : Shape := ⟨3, ![1, 512, 256]⟩
abbrev S1x1x512 : Shape := ⟨3, ![1, 1, 512]⟩
abbrev S1x4096x256 : Shape := ⟨3, ![1, 4096, 256]⟩
abbrev S1x1x4096 : Shape := ⟨3, ![1, 1, 4096]⟩
abbrev S4096x256 : Shape := ⟨2, ![4096, 256]⟩
abbrev S512x4096 : Shape := ⟨2, ![512, 4096]⟩
abbrev S256x4096 : Shape := ⟨2, ![256, 4096]⟩
abbrev S1x4096 : Shape := ⟨2, ![1, 4096]⟩
abbrev S128x4096 : Shape := ⟨2, ![128, 4096]⟩
abbrev S4096x128 : Shape := ⟨2, ![4096, 128]⟩
abbrev S4096x1 : Shape := ⟨2, ![4096, 1]⟩
abbrev S1x512 : Shape := ⟨2, ![1, 512]⟩
abbrev S128x512 : Shape := ⟨2, ![128, 512]⟩
abbrev S512x128 : Shape := ⟨2, ![512, 128]⟩
abbrev S512x1 : Shape := ⟨2, ![512, 1]⟩
abbrev S512x256 : Shape := ⟨2, ![512, 256]⟩
abbrev S512x512 : Shape := ⟨2, ![512, 512]⟩
abbrev S512 : Shape := ⟨1, ![512]⟩
abbrev S256x512 : Shape := ⟨2, ![256, 512]⟩

abbrev nBuf : Space → Nat
  | .hbm => 11
  | .vmem => 20
  | .smem => 0
  | _ => 0

abbrev bufTy : (tb : Table) → Fin (tcTables nBuf tb) → BufTy
  | .hbm, ⟨0, _⟩ => ⟨S12x4096x256, .fp8e4m3⟩
  | .hbm, ⟨1, _⟩ => ⟨S12x4096, .f32⟩
  | .hbm, ⟨2, _⟩ => ⟨S12x4096x256, .fp8e4m3⟩
  | .hbm, ⟨3, _⟩ => ⟨S12x4096, .f32⟩
  | .hbm, ⟨4, _⟩ => ⟨S12x4096, .f32⟩
  | .hbm, ⟨5, _⟩ => ⟨S12x1x4096, .f32⟩
  | .hbm, ⟨6, _⟩ => ⟨S12x1x4096, .f32⟩
  | .hbm, ⟨7, _⟩ => ⟨S12x1x4096, .f32⟩
  | .hbm, ⟨8, _⟩ => ⟨S12x1x4096, .f32⟩
  | .hbm, ⟨9, _⟩ => ⟨S12x4096x256, .bf16⟩
  | .hbm, ⟨10, _⟩ => ⟨S12x4096x256, .bf16⟩
  | .local _ .vmem, ⟨0, _⟩ => ⟨S1x512x256, .fp8e4m3⟩
  | .local _ .vmem, ⟨1, _⟩ => ⟨S1x512x256, .fp8e4m3⟩
  | .local _ .vmem, ⟨2, _⟩ => ⟨S1x1x512, .f32⟩
  | .local _ .vmem, ⟨3, _⟩ => ⟨S1x1x512, .f32⟩
  | .local _ .vmem, ⟨4, _⟩ => ⟨S1x4096x256, .fp8e4m3⟩
  | .local _ .vmem, ⟨5, _⟩ => ⟨S1x4096x256, .fp8e4m3⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x512, .f32⟩
  | .local _ .vmem, ⟨11, _⟩ => ⟨S1x1x512, .f32⟩
  | .local _ .vmem, ⟨12, _⟩ => ⟨S1x512x256, .bf16⟩
  | .local _ .vmem, ⟨13, _⟩ => ⟨S1x512x256, .bf16⟩
  | .local _ .vmem, ⟨14, _⟩ => ⟨S1x4096x256, .bf16⟩
  | .local _ .vmem, ⟨15, _⟩ => ⟨S1x4096x256, .bf16⟩
  | .local _ .vmem, ⟨16, _⟩ => ⟨S4096x256, .bf16⟩
  | .local _ .vmem, ⟨17, _⟩ => ⟨S512x4096, .f32⟩
  | .local _ .vmem, ⟨18, _⟩ => ⟨S512x4096, .bf16⟩
  | .local _ .vmem, ⟨19, _⟩ => ⟨S256x4096, .f32⟩
  | _, _ => ⟨S12x4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![12, 8], ![false, false]⟩

def k0_mult1 (i : grid0.Coords) : BitVec 32 :=
  let arg1 : BitVec 32 := BitVec.ofNat 32 (i 1).val
  let c512_i32 : BitVec 32 := 512#32
  let v197 : BitVec 32 := Scalar.muli arg1 c512_i32
  v197
def k0_off1 (i : grid0.Coords) : Fin 2 → Nat :=
  let c0_118 : Index := 0#32
  let arg1 : BitVec 32 := BitVec.ofNat 32 (i 1).val
  let c512_i32 : BitVec 32 := 512#32
  let v197 : BitVec 32 := Scalar.muli arg1 c512_i32
  let v198 : BitVec 32 := v197
  let v199 : Index := Scalar.indexCast v198
  ![0, v199.toNat]
def k0_cond2 (i : grid0.Coords) : BitVec 1 :=
  let arg1 : BitVec 32 := BitVec.ofNat 32 (i 1).val
  let c7_i32 : BitVec 32 := 7#32
  let v440 : BitVec 1 := Scalar.cmpi .eq arg1 c7_i32
  let v441 : BitVec 32 := Scalar.extui v440
  let c0_i32_267 : BitVec 32 := 0#32
  let v442 : BitVec 1 := Scalar.cmpi .ne v441 c0_i32_267
  v442

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "inv_tau_log2e" => some ((20 * (Real.log 2)⁻¹ : ℝ) : EReal)
  | "ln2" => some ((Real.log 2 : ℝ) : EReal)
  | "log2e" => some (((Real.log 2)⁻¹ : ℝ) : EReal)
  | _ => none
-- ==== ReferenceIdeal.lean ====
abbrev S12x4096x256 : Shape := ⟨3, ![12, 4096, 256]⟩
abbrev S12x4096 : Shape := ⟨2, ![12, 4096]⟩
abbrev S12x4096x1 : Shape := ⟨3, ![12, 4096, 1]⟩
abbrev S12x4096x4096 : Shape := ⟨3, ![12, 4096, 4096]⟩
abbrev S12x1x4096 : Shape := ⟨3, ![12, 1, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩

abbrev nBuf : Space → Nat
  | .hbm => 84
  | .vmem => 4
  | .smem => 0
  | _ => 0

abbrev bufTy : (tb : Table) → Fin (tcTables nBuf tb) → BufTy
  | .hbm, ⟨0, _⟩ => ⟨S12x4096x256, .fp8e4m3⟩
  | .hbm, ⟨1, _⟩ => ⟨S12x4096, .f32⟩
  | .hbm, ⟨2, _⟩ => ⟨S12x4096x256, .fp8e4m3⟩
  | .hbm, ⟨3, _⟩ => ⟨S12x4096, .f32⟩
  | .hbm, ⟨4, _⟩ => ⟨S12x4096, .f32⟩
  | .hbm, ⟨5, _⟩ => ⟨S12x4096x256, .bf16⟩
  | .hbm, ⟨6, _⟩ => ⟨S12x4096x256, .bf16⟩
  | .hbm, ⟨7, _⟩ => ⟨S12x4096, .bf16⟩
  | .hbm, ⟨8, _⟩ => ⟨S12x4096x1, .bf16⟩
  | .hbm, ⟨9, _⟩ => ⟨S12x4096x256, .bf16⟩
  | .hbm, ⟨10, _⟩ => ⟨S12x4096x256, .bf16⟩
  | .hbm, ⟨11, _⟩ => ⟨S12x4096, .bf16⟩
  | .hbm, ⟨12, _⟩ => ⟨S12x4096x1, .bf16⟩
  | .hbm, ⟨13, _⟩ => ⟨S12x4096x256, .bf16⟩
  | .hbm, ⟨14, _⟩ => ⟨S12x4096x256, .bf16⟩
  | .hbm, ⟨15, _⟩ => ⟨S12x4096x4096, .f32⟩
  | .hbm, ⟨16, _⟩ => ⟨S12x4096x1, .f32⟩
  | .hbm, ⟨17, _⟩ => ⟨S12x1x4096, .f32⟩
  | .hbm, ⟨18, _⟩ => ⟨S12x4096x4096, .f32⟩
  | .hbm, ⟨19, _⟩ => ⟨S12x4096x4096, .f32⟩
  | .hbm, ⟨20, _⟩ => ⟨S12x4096x4096, .f32⟩
  | .hbm, ⟨21, _⟩ => ⟨S12x4096x4096, .f32⟩
  | .hbm, ⟨22, _⟩ => ⟨S_, .f32⟩
  | .hbm, ⟨23, _⟩ => ⟨S12x4096x4096, .f32⟩
  | .hbm, ⟨24, _⟩ => ⟨S12x4096x4096, .f32⟩
  | .hbm, ⟨25, _⟩ => ⟨S12x1x4096, .f32⟩
  | .hbm, ⟨26, _⟩ => ⟨S12x4096x4096, .f32⟩
  | .hbm, ⟨27, _⟩ => ⟨S12x4096x4096, .f32⟩
  | .hbm, ⟨28, _⟩ => ⟨S_, .f32⟩
  | .hbm, ⟨29, _⟩ => ⟨S12x4096, .f32⟩
  | .hbm, ⟨30, _⟩ => ⟨S12x4096x1, .f32⟩
  | .hbm, ⟨31, _⟩ => ⟨S12x4096x4096, .f32⟩
  | .hbm, ⟨32, _⟩ => ⟨S12x4096x4096, .f32⟩
  | .hbm, ⟨33, _⟩ => ⟨S12x4096x4096, .f32⟩
  | .hbm, ⟨34, _⟩ => ⟨S_, .f32⟩
  | .hbm, ⟨35, _⟩ => ⟨S12x4096, .f32⟩
  | .hbm, ⟨36, _⟩ => ⟨S12x4096, .f32⟩
  | .hbm, ⟨37, _⟩ => ⟨S12x4096, .f32⟩
  | .hbm, ⟨38, _⟩ => ⟨S4096, .i32⟩
  | .hbm, ⟨39, _⟩ => ⟨S4096x1, .i32⟩
  | .hbm, ⟨40, _⟩ => ⟨S1x4096, .i32⟩
  | .hbm, ⟨41, _⟩ => ⟨S4096x4096, .i32⟩
  | .hbm, ⟨42, _⟩ => ⟨S4096x4096, .i32⟩
  | .hbm, ⟨43, _⟩ => ⟨S4096x4096, .i1⟩
  | .hbm, ⟨44, _⟩ => ⟨S1x4096x4096, .i1⟩
  | .hbm, ⟨45, _⟩ => ⟨S_, .f32⟩
  | .hbm, ⟨46, _⟩ => ⟨S_, .f32⟩
  | .hbm, ⟨47, _⟩ => ⟨S12x4096x4096, .i1⟩
  | .hbm, ⟨48, _⟩ => ⟨S12x4096x4096, .f32⟩
  | .hbm, ⟨49, _⟩ => ⟨S12x4096x4096, .f32⟩
  | .hbm, ⟨50, _⟩ => ⟨S_, .f32⟩
  | .hbm, ⟨51, _⟩ => ⟨S12x4096, .f32⟩
  | .hbm, ⟨52, _⟩ => ⟨S12x4096, .f32⟩
  | .hbm, ⟨53, _⟩ => ⟨S12x4096x1, .f32⟩
  | .hbm, ⟨54, _⟩ => ⟨S12x4096x4096, .f32⟩
  | .hbm, ⟨55, _⟩ => ⟨S12x4096x4096, .f32⟩
  | .hbm, ⟨56, _⟩ => ⟨S12x4096x4096, .f32⟩
  | .hbm, ⟨57, _⟩ => ⟨S_, .f32⟩
  | .hbm, ⟨58, _⟩ => ⟨S12x4096x4096, .f32⟩
  | .hbm, ⟨59, _⟩ => ⟨S12x4096x4096, .f32⟩
  | .hbm, ⟨60, _⟩ => ⟨S12x4096x4096, .i1⟩
  | .hbm, ⟨61, _⟩ => ⟨S12x4096x4096, .f32⟩
  | .hbm, ⟨62, _⟩ => ⟨S12x4096, .f32⟩
  | .hbm, ⟨63, _⟩ => ⟨S_, .f32⟩
  | .hbm, ⟨64, _⟩ => ⟨S12x4096, .f32⟩
  | .hbm, ⟨65, _⟩ => ⟨S12x4096, .i1⟩
  | .hbm, ⟨66, _⟩ => ⟨S12x4096x1, .i1⟩
  | .hbm, ⟨67, _⟩ => ⟨S_, .f32⟩
  | .hbm, ⟨68, _⟩ => ⟨S_, .f32⟩
  | .hbm, ⟨69, _⟩ => ⟨S12x4096x4096, .i1⟩
  | .hbm, ⟨70, _⟩ => ⟨S12x4096x4096, .f32⟩
  | .hbm, ⟨71, _⟩ => ⟨S12x4096x4096, .f32⟩
  | .hbm, ⟨72, _⟩ => ⟨S12x4096x4096, .bf16⟩
  | .hbm, ⟨73, _⟩ => ⟨S12x4096x256, .f32⟩
  | .hbm, ⟨74, _⟩ => ⟨S_, .f32⟩
  | .hbm, ⟨75, _⟩ => ⟨S12x4096x256, .f32⟩
  | .hbm, ⟨76, _⟩ => ⟨S12x4096x256, .f32⟩
  | .hbm, ⟨77, _⟩ => ⟨S12x4096x256, .f32⟩
  | .hbm, ⟨78, _⟩ => ⟨S_, .f32⟩
  | .hbm, ⟨79, _⟩ => ⟨S12x4096x256, .f32⟩
  | .hbm, ⟨80, _⟩ => ⟨S12x4096x256, .f32⟩
  | .hbm, ⟨81, _⟩ => ⟨S12x1x4096, .f32⟩
  | .hbm, ⟨82, _⟩ => ⟨S12x4096x256, .bf16⟩
  | .hbm, ⟨83, _⟩ => ⟨S12x4096x256, .bf16⟩
  | .local _ .vmem, ⟨0, _⟩ => ⟨S12x4096x256, .fp8e4m3⟩
  | .local _ .vmem, ⟨1, _⟩ => ⟨S12x4096x256, .fp8e4m3⟩
  | .local _ .vmem, ⟨2, _⟩ => ⟨S12x4096x256, .bf16⟩
  | .local _ .vmem, ⟨3, _⟩ => ⟨S12x4096x256, .bf16⟩
  | _, _ => ⟨S12x4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_call1_v0 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S12x4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x4096x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Math.lean ====
/-
  One row of the softmax over the extended reals. The kernel works with `X = log2(e) · L` (base two), the reference with the
  logits `L` themselves; the theorems here say that the loss and the gradient row the kernel computes from `X` are those the
  reference computes from `L`, whatever the logits are (infinite ones included).
-/
module

public import Idealize.ShloMosaic.PureOps.Ideal

@[expose] public section

noncomputable section

open Idealize.ShloMosaic

namespace Cert.Row

/-- log2(e), as `1 / log 2`. -/
def c2 : ℝ := (Real.log 2)⁻¹

theorem log_two_pos : (0 : ℝ) < Real.log 2 := Real.log_pos (by norm_num)
theorem c2_pos : 0 < c2 := inv_pos.mpr log_two_pos
theorem c2_mul_log : c2 * Real.log 2 = 1 := inv_mul_cancel₀ log_two_pos.ne'

/-- Multiplication by log2(e) distributes over a difference of extended reals. -/
theorem c2_mul_sub (a b : EReal) : (c2 : EReal) * (a - b) = c2 * a - c2 * b := by
  rw [sub_eq_add_neg, sub_eq_add_neg, EReal.left_distrib_of_nonneg_of_ne_top (by exact_mod_cast c2_pos.le) (EReal.coe_ne_top _),
    mul_neg]

theorem c2_mul_top : (c2 : EReal) * ⊤ = ⊤ := EReal.coe_mul_top_of_pos c2_pos
theorem c2_mul_bot : (c2 : EReal) * ⊥ = ⊥ := EReal.coe_mul_bot_of_pos c2_pos

/-- `2 ^ (log2(e) · y) = e ^ y`, at the infinities too. -/
theorem exp2_c2_mul (y : EReal) : Ideal.exp2 (c2 * y) = Ideal.exp y := by
  induction y with
  | bot => rw [c2_mul_bot]; rfl
  | top => rw [c2_mul_top]; rfl
  | coe r =>
    rw [← EReal.coe_mul, Ideal.exp2_coe, Ideal.exp_coe]
    congr 1
    show (2 : ℝ) ^ (c2 * r) = Real.exp r
    rw [Real.rpow_def_of_pos (by norm_num), ← mul_assoc, mul_comm (Real.log 2), c2_mul_log, one_mul]

theorem c2_mul_le {a b : EReal} (h : a ≤ b) : (c2 : EReal) * a ≤ c2 * b :=
  mul_le_mul_of_nonneg_left h (by exact_mod_cast c2_pos.le)

/-- The kernel's logit in base two is log2(e) times the reference's logit. -/
theorem logit_eq (s us vs lq : EReal) (k20 : EReal) (hk : k20 = ((20 : ℝ) : EReal) * (c2 : EReal)) :
    s * (vs * k20) * us - lq * (c2 : EReal) = c2 * (s * (us * vs) * ((20 : ℝ) : EReal) - lq) := by
  rw [c2_mul_sub, hk]
  congr 1
  · ac_rfl
  · exact mul_comm _ _

variable {n : ℕ} (L : Fin n → EReal)

/-- The row's largest logit. -/
def top : EReal := Finset.univ.fold max ⊥ L
/-- The shifted exponentials. -/
def e (j : Fin n) : EReal := Ideal.exp (L j - top L)
/-- Their sum. -/
def tot : EReal := ∑ j, e L j
/-- The row's log-sum-exp as the reference writes it. -/
def lse : EReal := Ideal.log (tot L) + top L

theorem le_top (j : Fin n) : L j ≤ top L := Finset.le_sup (f := L) (Finset.mem_univ j)

theorem top_le {b : EReal} (h : ∀ j, L j ≤ b) : top L ≤ b := Finset.sup_le (f := L) fun j _ => h j

theorem exists_top (hn : 0 < n) : ∃ j, L j = top L := by
  haveI : Nonempty (Fin n) := ⟨⟨0, hn⟩⟩
  obtain ⟨j, -, h⟩ := Finset.exists_mem_eq_sup (Finset.univ : Finset (Fin n)) Finset.univ_nonempty L
  exact ⟨j, h.symm⟩

/-- The largest base-two logit. -/
theorem top_mul (hn : 0 < n) : top (fun j => (c2 : EReal) * L j) = c2 * top L := by
  refine le_antisymm (top_le _ fun j => c2_mul_le (le_top L j)) ?_
  obtain ⟨j, h⟩ := exists_top L hn
  rw [← h]
  exact le_top (fun j => (c2 : EReal) * L j) j

/-- The kernel's exponentials in base two. -/
theorem exp2_eq (hn : 0 < n) (j : Fin n) :
    Ideal.exp2 (c2 * L j - top (fun j => (c2 : EReal) * L j)) = e L j := by
  rw [top_mul L hn, ← c2_mul_sub, exp2_c2_mul]; rfl

/-- The kernel's `d`: the logarithm of the sum, through the largest logit added and taken away. -/
def dd : EReal := (c2 * top L * (Real.log 2 : ℝ) + Ideal.log (tot L)) - c2 * top L * (Real.log 2 : ℝ)

theorem c2_mul_mul_log (x : EReal) : (c2 : EReal) * x * (Real.log 2 : ℝ) = x := by
  rw [mul_comm (c2 : EReal), mul_assoc, ← EReal.coe_mul, c2_mul_log, EReal.coe_one, mul_one]

theorem dd_eq : dd L = (top L + Ideal.log (tot L)) - top L := by rw [dd, c2_mul_mul_log]

theorem e_of_top (h : top L = ⊤) (j : Fin n) : e L j = 0 := by
  rw [e, h, sub_eq_add_neg, EReal.neg_top, EReal.add_bot]; rfl

theorem e_of_bot (h : top L = ⊥) (j : Fin n) : e L j = 0 := by
  have hj : L j = ⊥ := le_bot_iff.mp (h ▸ le_top L j)
  rw [e, h, hj, sub_eq_add_neg, EReal.bot_add]; rfl

/-- With a finite largest logit every exponential is a real, the sum a positive one. -/
theorem e_real {r : ℝ} (h : top L = (r : EReal)) (j : Fin n) : ∃ x : ℝ, 0 ≤ x ∧ e L j = (x : EReal) := by
  have hj := le_top L j
  rw [h] at hj
  induction hL : L j with
  | bot => exact ⟨0, le_rfl, by rw [e, h, hL, sub_eq_add_neg, EReal.bot_add]; rfl⟩
  | top => rw [hL] at hj; exact absurd hj (by simp)
  | coe y => exact ⟨Real.exp (y - r), (Real.exp_pos _).le, by rw [e, h, hL, ← EReal.coe_sub, Ideal.exp_coe]⟩

theorem tot_real (hn : 0 < n) {r : ℝ} (h : top L = (r : EReal)) : ∃ t : ℝ, 0 < t ∧ tot L = (t : EReal) := by
  choose x hx0 hx using e_real L h
  refine ⟨∑ j, x j, ?_, ?_⟩
  · obtain ⟨j, hj⟩ := exists_top L hn
    have h1 : x j = 1 := by
      have := hx j
      rw [e, hj, h, ← EReal.coe_sub, sub_self, Ideal.exp_coe, Real.exp_zero] at this
      exact_mod_cast this.symm
    exact lt_of_lt_of_le (by rw [h1]; exact one_pos) (Finset.single_le_sum (fun i _ => hx0 i) (Finset.mem_univ j))
  · rw [tot, Finset.sum_congr rfl fun j _ => hx j]
    exact (map_sum (⟨⟨Real.toEReal, EReal.coe_zero⟩, EReal.coe_add⟩ : ℝ →+ EReal) x Finset.univ).symm

theorem tot_of_zero (h : ∀ j, e L j = 0) : tot L = 0 := Finset.sum_eq_zero fun j _ => h j

theorem log_zero : Ideal.log 0 = ⊥ := by rw [← EReal.coe_zero, Ideal.log_coe, if_pos le_rfl]

theorem log_real {t : ℝ} (h : 0 < t) : Ideal.log (t : EReal) = (Real.log t : EReal) := by
  rw [Ideal.log_coe, if_neg (not_le.mpr h)]

theorem div_one_zero : Ideal.div 1 0 = ⊤ := by
  unfold Ideal.div; rw [if_pos rfl, if_pos zero_lt_one]

/-- The loss of a row: the kernel's spelling is the reference's. -/
theorem loss_eq (hn : 0 < n) (o : Fin n) :
    (c2 * top L - c2 * L o) * (Real.log 2 : ℝ) + dd L = lse L - L o := by
  have h1 : ((c2 : EReal) * top L - c2 * L o) * (Real.log 2 : ℝ) = top L - L o := by rw [← c2_mul_sub, c2_mul_mul_log]
  rw [h1, dd_eq, lse]
  induction h : top L with
  | bot => simp [sub_eq_add_neg]
  | top =>
    rw [tot_of_zero L (e_of_top L h), log_zero]
    simp [sub_eq_add_neg]
  | coe r =>
    obtain ⟨t, ht, hl⟩ := tot_real L hn h
    rw [hl, log_real ht]
    have e1 : ((r : EReal) + (Real.log t : EReal)) - r = (Real.log t : EReal) := by
      rw [← EReal.coe_add, ← EReal.coe_sub]; congr 1; ring
    rw [e1, sub_eq_add_neg, sub_eq_add_neg]
    ac_rfl

/-- The reference's gradient entry: the softmax minus the row's own unit vector, and 0 in a row whose largest logit is infinite. -/
def grad (o j : Fin n) : EReal :=
  if max (top L) (-top L) < ⊤ then (if o = j then Ideal.exp (L j - lse L) - 1 else Ideal.exp (L j - lse L)) else 0

/-- The gradient entry of a row: the kernel's spelling is the reference's. -/
theorem grad_eq (hn : 0 < n) (o j : Fin n) :
    (if o = j then e L j - Ideal.exp (dd L) else e L j) * Ideal.div 1 (Ideal.exp (dd L)) = grad L o j := by
  rw [grad, dd_eq]
  induction h : top L with
  | bot =>
    have : (⊥ : EReal) + Ideal.log (tot L) - ⊥ = ⊥ := by simp [sub_eq_add_neg]
    rw [this, Ideal.exp_bot, e_of_bot L h, if_neg (show ¬max (⊥ : EReal) (-⊥) < ⊤ by simp)]; simp
  | top =>
    have : (⊤ : EReal) + Ideal.log (tot L) - ⊤ = ⊥ := by simp [sub_eq_add_neg]
    rw [this, Ideal.exp_bot, e_of_top L h, if_neg (show ¬max (⊤ : EReal) (-⊤) < ⊤ by simp)]; simp
  | coe r =>
    obtain ⟨t, ht, hl⟩ := tot_real L hn h
    have e1 : ((r : EReal) + Ideal.log (tot L)) - r = (Real.log t : EReal) := by
      rw [hl, log_real ht, ← EReal.coe_add, ← EReal.coe_sub]; congr 1; ring
    have e2 : lse L = ((Real.log t + r : ℝ) : EReal) := by rw [lse, hl, log_real ht, h, ← EReal.coe_add]
    have e3 : Ideal.div 1 (t : EReal) = ((1 / t : ℝ) : EReal) := by rw [Ideal.div_coe ht.ne', one_mul]
    have hfin : max (r : EReal) (-(r : EReal)) < ⊤ := by
      rw [← EReal.coe_neg]; exact max_lt (EReal.coe_lt_top _) (EReal.coe_lt_top _)
    have hp : e L j * ((1 / t : ℝ) : EReal) = Ideal.exp (L j - lse L) := by
      rw [e2, e, h]
      have hj := le_top L j
      rw [h] at hj
      induction hL : L j with
      | bot => simp [sub_eq_add_neg]
      | top => rw [hL] at hj; exact absurd hj (by simp)
      | coe y =>
        rw [← EReal.coe_sub, ← EReal.coe_sub, Ideal.exp_coe, Ideal.exp_coe, ← EReal.coe_mul]
        congr 1
        rw [show y - (Real.log t + r) = (y - r) - Real.log t by ring, Real.exp_sub (y - r), Real.exp_log ht]
        ring
    rw [e1, Ideal.exp_coe, Real.exp_log ht, e3, if_pos hfin]
    split_ifs
    · rw [← hp]
      obtain ⟨x, -, hx⟩ := e_real L h j
      rw [hx, ← EReal.coe_sub, ← EReal.coe_mul, ← EReal.coe_mul, ← EReal.coe_one, ← EReal.coe_sub]
      congr 1
      field_simp
    · exact hp

end Cert.Row
-- ==== Proof.Payload.lean ====
/-
What each named step of the kernel's body computes, read at one entry, over the extended reals.
-/
module

public import proofs.«01_k».proof.Proof.Gen.KernelIdeal.Skeleton
public import proofs.«01_k».proof.Proof.Math
public import Idealize.ShloMosaic.Lib.Pointwise

@[expose] public section

set_option maxRecDepth 16384

noncomputable section

open Idealize.ShloMosaic Idealize.ShloMosaic.TcCoe Idealize.SL.Sem

namespace Cert.KernelIdeal.Payload

open Cert.KernelIdeal Cert.KernelIdeal.Gen

/-! ## The constants -/

theorem log2e : (Named.named κ "log2e" 0x3FB8AA3B#32 : Ideal .f32) = (Row.c2 : EReal) :=
  IdealRules.named_const.ideal_named_scalar _ _ _ _ rfl
theorem ln2 : (Named.named κ "ln2" 0x3F317218#32 : Ideal .f32) = ((Real.log 2 : ℝ) : EReal) :=
  IdealRules.named_const.ideal_named_scalar _ _ _ _ rfl
theorem inv_tau_log2e : (Named.named κ "inv_tau_log2e" 0x41E6D4CA#32 : Ideal .f32) = ((20 * (Real.log 2)⁻¹ : ℝ) : EReal) :=
  IdealRules.named_const.ideal_named_scalar _ _ _ _ rfl
/-- The reciprocal temperature times the logarithm's base change. -/
def k20 : EReal := ((20 * (Real.log 2)⁻¹ : ℝ) : EReal)
theorem k20_eq : k20 = ((20 : ℝ) : EReal) * (Row.c2 : EReal) := by
  unfold k20 Row.c2; exact_mod_cast rfl
theorem ofBits_neg_inf : Ideal.ofBits FTy.f32 0xFF800000#32 = (⊥ : EReal) := by
  simp [Ideal.ofBits, Ideal.ieee]
theorem ofBits_20 : Ideal.ofBits FTy.f32 0x41A00000#32 = ((20 : ℝ) : EReal) := by
  simp [Ideal.ofBits, Ideal.ieee]
  rw [← EReal.coe_mul]
  norm_num

/-! ## The scores -/

/-- One score: the dot product of two rows of codes, scaled, minus the item's correction, all times `1 / log 2`. -/
def score (u v : Fin 256 → EReal) (us vs lq : EReal) : EReal := (∑ x, u x * v x) * (vs * k20) * us - lq * (Row.c2 : EReal)

theorem score_congr {u u' v v' : Fin 256 → EReal} {us us' vs vs' lq lq' : EReal} (h1 : ∀ x, u x = u' x) (h2 : ∀ x, v x = v' x) (h3 : us = us')
    (h4 : vs = vs') (h5 : lq = lq') : score u v us vs lq = score u' v' us' vs' lq' := by
  rw [funext h1, funext h2, h3, h4, h5]

theorem pay14 (v : FVec Ideal S1x1x512 .f32) (r : Fin 512) : k0_pay14 (F := Ideal) v (ix2 r 0) = v (ix3 0 0 r) := by
  pointwise [k0_pay14]
theorem pay15 (v : FVec Ideal S1x512x256 .fp8e4m3) (r : Fin 512) (d : Fin 256) : k0_pay15 (F := Ideal) v (ix2 r d) = v (ix3 0 r d) := by
  pointwise [k0_pay15]

section scores
theorem pay16 (v3 : FVec Ideal S1x1x512 .f32) (v9 : FVec Ideal S1x512x256 .fp8e4m3) (v11 : FVec Ideal S1x512x256 .fp8e4m3) (v14 v22 : FVec Ideal S1x1x512 .f32) (r q : Fin 512) :
    k0_pay16 (F := Ideal) v3 v9 v11 v14 v22 (ix2 r q) = score (fun x => v9 (ix3 0 r x)) (fun x => v11 (ix3 0 q x)) (v3 (ix3 0 0 r)) (v14 (ix3 0 0 q)) (v22 (ix3 0 0 q)) := by
  pointwise [k0_pay16, k0_pay14, k0_pay15, log2e, ln2, inv_tau_log2e, ofBits_neg_inf, ofBits_20]
  rfl
theorem pay17 (v3 : FVec Ideal S1x1x512 .f32) (v9 : FVec Ideal S1x512x256 .fp8e4m3) (v11 : FVec Ideal S1x512x256 .fp8e4m3) (v14 v22 : FVec Ideal S1x1x512 .f32) (r q : Fin 512) :
    k0_pay17 (F := Ideal) v3 v9 v11 v14 v22 (ix2 r q) = score (fun x => v9 (ix3 0 r x)) (fun x => v11 (ix3 0 q x)) (v3 (ix3 0 0 r)) (v14 (ix3 0 0 q)) (v22 (ix3 0 0 q)) := by
  pointwise [k0_pay17]
  exact pay16 ..
theorem pay19 (v8 : FVec Ideal S512x1 .f32) (v10 : FVec Ideal S512x256 .fp8e4m3) (v11 : FVec Ideal S1x512x256 .fp8e4m3) (v14 v22 : FVec Ideal S1x1x512 .f32) (r q : Fin 512) :
    k0_pay19 (F := Ideal) v8 v10 v11 v14 v22 (ix2 r q) = score (fun x => v10 (ix2 r x)) (fun x => v11 (ix3 0 q x)) (v8 (ix2 r 0)) (v14 (ix3 0 0 q)) (v22 (ix3 0 0 q)) := by
  pointwise [k0_pay19, log2e, ln2, inv_tau_log2e, ofBits_neg_inf, ofBits_20]
  rfl
theorem pay20 (v8 : FVec Ideal S512x1 .f32) (v10 : FVec Ideal S512x256 .fp8e4m3) (v11 : FVec Ideal S1x512x256 .fp8e4m3) (v14 v22 : FVec Ideal S1x1x512 .f32) (r q : Fin 512) :
    k0_pay20 (F := Ideal) v8 v10 v11 v14 v22 (ix2 r q) = score (fun x => v10 (ix2 r x)) (fun x => v11 (ix3 0 q x)) (v8 (ix2 r 0)) (v14 (ix3 0 0 q)) (v22 (ix3 0 0 q)) := by
  pointwise [k0_pay20]
  exact pay19 ..
theorem pay25 (v8 : FVec Ideal S512x1 .f32) (v10 : FVec Ideal S512x256 .fp8e4m3) (v11 : FVec Ideal S1x512x256 .fp8e4m3) (v14 v22 : FVec Ideal S1x1x512 .f32) (r q : Fin 512) :
    k0_pay25 (F := Ideal) v8 v10 v11 v14 v22 (ix2 r q) = score (fun x => v10 (ix2 r x)) (fun x => v11 (ix3 0 q x)) (v8 (ix2 r 0)) (v14 (ix3 0 0 q)) (v22 (ix3 0 0 q)) := by
  pointwise [k0_pay25, log2e, ln2, inv_tau_log2e, ofBits_neg_inf, ofBits_20]
  rfl
theorem pay26 (v8 : FVec Ideal S512x1 .f32) (v10 : FVec Ideal S512x256 .fp8e4m3) (v11 : FVec Ideal S1x512x256 .fp8e4m3) (v14 v22 : FVec Ideal S1x1x512 .f32) (r q : Fin 512) :
    k0_pay26 (F := Ideal) v8 v10 v11 v14 v22 (ix2 r q) = score (fun x => v10 (ix2 r x)) (fun x => v11 (ix3 0 q x)) (v8 (ix2 r 0)) (v14 (ix3 0 0 q)) (v22 (ix3 0 0 q)) := by
  pointwise [k0_pay26]
  exact pay25 ..
theorem pay28 (v8 : FVec Ideal S512x1 .f32) (v10 : FVec Ideal S512x256 .fp8e4m3) (v11 : FVec Ideal S1x512x256 .fp8e4m3) (v14 v22 : FVec Ideal S1x1x512 .f32) (r q : Fin 512) :
    k0_pay28 (F := Ideal) v8 v10 v11 v14 v22 (ix2 r q) = score (fun x => v10 (ix2 r x)) (fun x => v11 (ix3 0 q x)) (v8 (ix2 r 0)) (v14 (ix3 0 0 q)) (v22 (ix3 0 0 q)) := by
  pointwise [k0_pay28, log2e, ln2, inv_tau_log2e, ofBits_neg_inf, ofBits_20]
  rfl
theorem pay29 (v8 : FVec Ideal S512x1 .f32) (v10 : FVec Ideal S512x256 .fp8e4m3) (v11 : FVec Ideal S1x512x256 .fp8e4m3) (v14 v22 : FVec Ideal S1x1x512 .f32) (r q : Fin 512) :
    k0_pay29 (F := Ideal) v8 v10 v11 v14 v22 (ix2 r q) = score (fun x => v10 (ix2 r x)) (fun x => v11 (ix3 0 q x)) (v8 (ix2 r 0)) (v14 (ix3 0 0 q)) (v22 (ix3 0 0 q)) := by
  pointwise [k0_pay29]
  exact pay28 ..
theorem pay35 (v8 : FVec Ideal S512x1 .f32) (v10 : FVec Ideal S512x256 .fp8e4m3) (v11 : FVec Ideal S1x512x256 .fp8e4m3) (v14 v22 : FVec Ideal S1x1x512 .f32) (r q : Fin 512) :
    k0_pay35 (F := Ideal) v8 v10 v11 v14 v22 (ix2 r q) = score (fun x => v10 (ix2 r x)) (fun x => v11 (ix3 0 q x)) (v8 (ix2 r 0)) (v14 (ix3 0 0 q)) (v22 (ix3 0 0 q)) := by
  pointwise [k0_pay35, log2e, ln2, inv_tau_log2e, ofBits_neg_inf, ofBits_20]
  rfl
theorem pay36 (v8 : FVec Ideal S512x1 .f32) (v10 : FVec Ideal S512x256 .fp8e4m3) (v11 : FVec Ideal S1x512x256 .fp8e4m3) (v14 v22 : FVec Ideal S1x1x512 .f32) (r q : Fin 512) :
    k0_pay36 (F := Ideal) v8 v10 v11 v14 v22 (ix2 r q) = score (fun x => v10 (ix2 r x)) (fun x => v11 (ix3 0 q x)) (v8 (ix2 r 0)) (v14 (ix3 0 0 q)) (v22 (ix3 0 0 q)) := by
  pointwise [k0_pay36]
  exact pay35 ..
theorem pay23 (v8 : FVec Ideal S512x1 .f32) (v10 : FVec Ideal S512x256 .fp8e4m3) (v11 : FVec Ideal S1x512x256 .fp8e4m3) (v14 v22 : FVec Ideal S1x1x512 .f32) (r q : Fin 512) :
    k0_pay23 (F := Ideal) (k0_pay22 (F := Ideal) v8 v10 v11 v14) v22 (ix2 r q) = score (fun x => v10 (ix2 r x)) (fun x => v11 (ix3 0 q x)) (v8 (ix2 r 0)) (v14 (ix3 0 0 q)) (v22 (ix3 0 0 q)) := by
  pointwise [k0_pay23, k0_pay22, log2e, ln2, inv_tau_log2e, ofBits_neg_inf, ofBits_20]
  rfl
theorem pay24 (v8 : FVec Ideal S512x1 .f32) (v10 : FVec Ideal S512x256 .fp8e4m3) (v11 : FVec Ideal S1x512x256 .fp8e4m3) (v14 v22 : FVec Ideal S1x1x512 .f32) (r q : Fin 512) :
    k0_pay24 (F := Ideal) (k0_pay22 (F := Ideal) v8 v10 v11 v14) v22 (ix2 r q) = score (fun x => v10 (ix2 r x)) (fun x => v11 (ix3 0 q x)) (v8 (ix2 r 0)) (v14 (ix3 0 0 q)) (v22 (ix3 0 0 q)) := by
  pointwise [k0_pay24]
  exact pay23 ..
theorem pay33 (v8 : FVec Ideal S512x1 .f32) (v10 : FVec Ideal S512x256 .fp8e4m3) (v11 : FVec Ideal S1x512x256 .fp8e4m3) (v14 v22 : FVec Ideal S1x1x512 .f32) (r q : Fin 512) :
    k0_pay33 (F := Ideal) (k0_pay31 (F := Ideal) v8 v10 v11 v14) (k0_pay32 (F := Ideal) v22) (ix2 r q) = score (fun x => v10 (ix2 r x)) (fun x => v11 (ix3 0 q x)) (v8 (ix2 r 0)) (v14 (ix3 0 0 q)) (v22 (ix3 0 0 q)) := by
  pointwise [k0_pay33, k0_pay31, k0_pay32, log2e, ln2, inv_tau_log2e, ofBits_neg_inf, ofBits_20]
  rfl
theorem pay34 (v8 : FVec Ideal S512x1 .f32) (v10 : FVec Ideal S512x256 .fp8e4m3) (v11 : FVec Ideal S1x512x256 .fp8e4m3) (v14 v22 : FVec Ideal S1x1x512 .f32) (r q : Fin 512) :
    k0_pay34 (F := Ideal) (k0_pay31 (F := Ideal) v8 v10 v11 v14) (k0_pay32 (F := Ideal) v22) (ix2 r q) = score (fun x => v10 (ix2 r x)) (fun x => v11 (ix3 0 q x)) (v8 (ix2 r 0)) (v14 (ix3 0 0 q)) (v22 (ix3 0 0 q)) := by
  pointwise [k0_pay34]
  exact pay33 ..
theorem pay39 (v8 : FVec Ideal S512x1 .f32) (v10 : FVec Ideal S512x256 .fp8e4m3) (v11 : FVec Ideal S1x512x256 .fp8e4m3) (v14 v22 : FVec Ideal S1x1x512 .f32) (r q : Fin 512) :
    k0_pay39 (F := Ideal) v8 v10 (k0_pay38 (F := Ideal) v11) (constant (F := Ideal) S512x512 .f32 0x00000000#32) v14 v22 (ix2 r q) = score (fun x => v10 (ix2 r x)) (fun x => v11 (ix3 0 q x)) (v8 (ix2 r 0)) (v14 (ix3 0 0 q)) (v22 (ix3 0 0 q)) := by
  pointwise [k0_pay39, k0_pay38, log2e, ln2, inv_tau_log2e, ofBits_neg_inf, ofBits_20]
  rfl
theorem pay40 (v8 : FVec Ideal S512x1 .f32) (v10 : FVec Ideal S512x256 .fp8e4m3) (v11 : FVec Ideal S1x512x256 .fp8e4m3) (v14 v22 : FVec Ideal S1x1x512 .f32) (r q : Fin 512) :
    k0_pay40 (F := Ideal) v8 v10 (k0_pay38 (F := Ideal) v11) (constant (F := Ideal) S512x512 .f32 0x00000000#32) v14 v22 (ix2 r q) = score (fun x => v10 (ix2 r x)) (fun x => v11 (ix3 0 q x)) (v8 (ix2 r 0)) (v14 (ix3 0 0 q)) (v22 (ix3 0 0 q)) := by
  pointwise [k0_pay40]
  exact pay39 ..
end scores

/-! ## The row maximum -/

theorem pay18 (v3 : FVec Ideal S1x1x512 .f32) (v9 : FVec Ideal S1x512x256 .fp8e4m3) (v11 : FVec Ideal S1x512x256 .fp8e4m3) (v14 v22 : FVec Ideal S1x1x512 .f32) (r : Fin 512) :
    k0_pay18 (F := Ideal) v3 v9 v11 v14 v22 (ix2 r 0) = (Finset.univ.fold max ⊥ fun q : Fin 512 => k0_pay16 (F := Ideal) v3 v9 v11 v14 v22 (ix2 r q)) := by
  pointwise [k0_pay18, log2e, ln2, inv_tau_log2e, ofBits_neg_inf, ofBits_20]
theorem pay21 (v8 : FVec Ideal S512x1 .f32) (v10 : FVec Ideal S512x256 .fp8e4m3) (m : FVec Ideal S512x1 .f32) (v11 : FVec Ideal S1x512x256 .fp8e4m3) (v14 v22 : FVec Ideal S1x1x512 .f32) (r : Fin 512) :
    k0_pay21 (F := Ideal) v8 v10 m v11 v14 v22 (ix2 r 0) = max (m (ix2 r 0)) (Finset.univ.fold max ⊥ fun q : Fin 512 => k0_pay19 (F := Ideal) v8 v10 v11 v14 v22 (ix2 r q)) := by
  pointwise [k0_pay21, log2e, ln2, inv_tau_log2e, ofBits_neg_inf, ofBits_20]
theorem pay30 (v8 : FVec Ideal S512x1 .f32) (v10 : FVec Ideal S512x256 .fp8e4m3) (m : FVec Ideal S512x1 .f32) (v11 : FVec Ideal S1x512x256 .fp8e4m3) (v14 v22 : FVec Ideal S1x1x512 .f32) (r : Fin 512) :
    k0_pay30 (F := Ideal) v8 v10 m v11 v14 v22 (ix2 r 0) = max (m (ix2 r 0)) (Finset.univ.fold max ⊥ fun q : Fin 512 => k0_pay28 (F := Ideal) v8 v10 v11 v14 v22 (ix2 r q)) := by
  pointwise [k0_pay30, log2e, ln2, inv_tau_log2e, ofBits_neg_inf, ofBits_20]
theorem pay27 (v8 : FVec Ideal S512x1 .f32) (v10 : FVec Ideal S512x256 .fp8e4m3) (m : FVec Ideal S512x1 .f32) (p : FVec Ideal S512x512 .f32) (w : FVec Ideal S1x1x512 .f32) (v11 : FVec Ideal S1x512x256 .fp8e4m3) (v14 v22 : FVec Ideal S1x1x512 .f32) (r : Fin 512) :
    k0_pay27 (F := Ideal) v8 v10 m p w v11 v14 v22 (ix2 r 0) = max (max (m (ix2 r 0)) (Finset.univ.fold max ⊥ fun q : Fin 512 => k0_pay23 (F := Ideal) p w (ix2 r q))) (Finset.univ.fold max ⊥ fun q : Fin 512 => k0_pay25 (F := Ideal) v8 v10 v11 v14 v22 (ix2 r q)) := by
  pointwise [k0_pay27, log2e, ln2, inv_tau_log2e, ofBits_neg_inf, ofBits_20]
theorem pay37 (v8 : FVec Ideal S512x1 .f32) (v10 : FVec Ideal S512x256 .fp8e4m3) (m : FVec Ideal S512x1 .f32) (p : FVec Ideal S512x512 .f32) (w : FVec Ideal S1x512 .f32) (v11 : FVec Ideal S1x512x256 .fp8e4m3) (v14 v22 : FVec Ideal S1x1x512 .f32) (r : Fin 512) :
    k0_pay37 (F := Ideal) v8 v10 m p w v11 v14 v22 (ix2 r 0) = max (max (m (ix2 r 0)) (Finset.univ.fold max ⊥ fun q : Fin 512 => k0_pay33 (F := Ideal) p w (ix2 r q))) (Finset.univ.fold max ⊥ fun q : Fin 512 => k0_pay35 (F := Ideal) v8 v10 v11 v14 v22 (ix2 r q)) := by
  pointwise [k0_pay37, log2e, ln2, inv_tau_log2e, ofBits_neg_inf, ofBits_20]
theorem pay41 (v8 : FVec Ideal S512x1 .f32) (v10 : FVec Ideal S512x256 .fp8e4m3) (m : FVec Ideal S512x1 .f32) (w : FVec Ideal S512x256 .fp8e4m3) (z : FVec Ideal S512x512 .f32) (v14 v22 : FVec Ideal S1x1x512 .f32) (r : Fin 512) :
    k0_pay41 (F := Ideal) v8 v10 m w z v14 v22 (ix2 r 0) = max (m (ix2 r 0)) (Finset.univ.fold max ⊥ fun q : Fin 512 => k0_pay39 (F := Ideal) v8 v10 w z v14 v22 (ix2 r q)) := by
  pointwise [k0_pay41, log2e, ln2, inv_tau_log2e, ofBits_neg_inf, ofBits_20]

/-! ## The own-item entry, the exponentials and their sum -/

/-- Selecting by the equality of two small row numbers. -/
theorem select_eye (r q : Fin 512) (a b : EReal) :
    Scalar.select (IntOp.cmpi CmpIPredicate.eq (BitVec.ofNat 32 r.val) (BitVec.ofNat 32 q.val)) a b = if r = q then a else b := by
  have hiff : (BitVec.ofNat 32 r.val = BitVec.ofNat 32 q.val) ↔ r = q := by
    constructor
    · intro h
      have := congrArg BitVec.toNat h
      simp only [BitVec.toNat_ofNat] at this
      exact Fin.ext (by omega)
    · rintro rfl; rfl
  by_cases h : r = q
  · subst h; simp [Scalar.select, IntOp.cmpi]
  · rw [if_neg h]
    have h' := mt hiff.mp h
    have h2 : (BitVec.ofNat 32 r.val == BitVec.ofNat 32 q.val) = false := beq_eq_false_iff_ne.mpr h'
    simp [Scalar.select, IntOp.cmpi, h2]

theorem pay43 (v : FVec Ideal S512x512 .f32) (r : Fin 512) : k0_pay43 (F := Ideal) v (ix2 r 0) = v (ix2 r r) := by
  pointwise [k0_pay43, k0_pay42]
  simp only [select_eye]
  rw [Finset.sum_ite_eq]
  simp
theorem pay44 (v8 : FVec Ideal S512x1 .f32) (v10 : FVec Ideal S512x256 .fp8e4m3) (m : FVec Ideal S512x1 .f32) (w : FVec Ideal S512x256 .fp8e4m3) (z : FVec Ideal S512x512 .f32) (v14 v22 : FVec Ideal S1x1x512 .f32) (v : FVec Ideal S512x512 .f32) (r q : Fin 512) :
    k0_pay44 (F := Ideal) v8 v10 m w z v14 v22 v (ix2 r q) = Ideal.exp2 (v (ix2 r q) - k0_pay41 (F := Ideal) v8 v10 m w z v14 v22 (ix2 r 0)) := by
  pointwise [k0_pay44, log2e, ln2, inv_tau_log2e, ofBits_neg_inf, ofBits_20]
  rfl
theorem pay45 (v8 : FVec Ideal S512x1 .f32) (v10 : FVec Ideal S512x256 .fp8e4m3) (m : FVec Ideal S512x1 .f32) (w : FVec Ideal S512x256 .fp8e4m3) (z : FVec Ideal S512x512 .f32) (v14 v22 : FVec Ideal S1x1x512 .f32) (v : FVec Ideal S512x512 .f32) (r q : Fin 512) :
    k0_pay45 (F := Ideal) v8 v10 m w z v14 v22 v (ix2 r q) = Ideal.exp2 (v (ix2 r q) - k0_pay41 (F := Ideal) v8 v10 m w z v14 v22 (ix2 r 0)) := by
  pointwise [k0_pay45]
  exact pay44 ..
theorem pay46 (m : FVec Ideal S512x1 .f32) (v : FVec Ideal S512x512 .f32) (r q : Fin 512) :
    k0_pay46 (F := Ideal) m v (ix2 r q) = Ideal.exp2 (v (ix2 r q) - m (ix2 r 0)) := by
  pointwise [k0_pay46, log2e, ln2, inv_tau_log2e, ofBits_neg_inf, ofBits_20]
  rfl
theorem pay47 (m : FVec Ideal S512x1 .f32) (v : FVec Ideal S512x512 .f32) (r q : Fin 512) :
    k0_pay47 (F := Ideal) m v (ix2 r q) = Ideal.exp2 (v (ix2 r q) - m (ix2 r 0)) := by
  pointwise [k0_pay47]
  exact pay46 ..
theorem pay48 (m : FVec Ideal S512x1 .f32) (v : FVec Ideal S512x512 .f32) (r q : Fin 512) :
    k0_pay48 (F := Ideal) m v (ix2 r q) = Ideal.exp2 (v (ix2 r q) - m (ix2 r 0)) := by
  pointwise [k0_pay48, log2e, ln2, inv_tau_log2e, ofBits_neg_inf, ofBits_20]
  rfl
theorem pay49 (m : FVec Ideal S512x1 .f32) (v : FVec Ideal S512x512 .f32) (r q : Fin 512) :
    k0_pay49 (F := Ideal) m v (ix2 r q) = Ideal.exp2 (v (ix2 r q) - m (ix2 r 0)) := by
  pointwise [k0_pay49]
  exact pay48 ..
theorem pay50 (m : FVec Ideal S512x1 .f32) (v : FVec Ideal S512x512 .f32) (r q : Fin 512) :
    k0_pay50 (F := Ideal) m v (ix2 r q) = Ideal.exp2 (v (ix2 r q) - m (ix2 r 0)) := by
  pointwise [k0_pay50, log2e, ln2, inv_tau_log2e, ofBits_neg_inf, ofBits_20]
  rfl
theorem pay51 (m : FVec Ideal S512x1 .f32) (v : FVec Ideal S512x512 .f32) (r q : Fin 512) :
    k0_pay51 (F := Ideal) m v (ix2 r q) = Ideal.exp2 (v (ix2 r q) - m (ix2 r 0)) := by
  pointwise [k0_pay51]
  exact pay50 ..
theorem pay55 (m : FVec Ideal S512x1 .f32) (v : FVec Ideal S512x512 .f32) (r q : Fin 512) :
    k0_pay55 (F := Ideal) m v (ix2 r q) = Ideal.exp2 (v (ix2 r q) - m (ix2 r 0)) := by
  pointwise [k0_pay55, log2e, ln2, inv_tau_log2e, ofBits_neg_inf, ofBits_20]
  rfl
theorem pay56 (m : FVec Ideal S512x1 .f32) (v : FVec Ideal S512x512 .f32) (r q : Fin 512) :
    k0_pay56 (F := Ideal) m v (ix2 r q) = Ideal.exp2 (v (ix2 r q) - m (ix2 r 0)) := by
  pointwise [k0_pay56]
  exact pay55 ..
theorem pay57 (m : FVec Ideal S512x1 .f32) (v : FVec Ideal S512x512 .f32) (r q : Fin 512) :
    k0_pay57 (F := Ideal) m v (ix2 r q) = Ideal.exp2 (v (ix2 r q) - m (ix2 r 0)) := by
  pointwise [k0_pay57, log2e, ln2, inv_tau_log2e, ofBits_neg_inf, ofBits_20]
  rfl
theorem pay58 (m : FVec Ideal S512x1 .f32) (v : FVec Ideal S512x512 .f32) (r q : Fin 512) :
    k0_pay58 (F := Ideal) m v (ix2 r q) = Ideal.exp2 (v (ix2 r q) - m (ix2 r 0)) := by
  pointwise [k0_pay58]
  exact pay57 ..
theorem pay59 (m : FVec Ideal S512x1 .f32) (v : FVec Ideal S512x512 .f32) (r q : Fin 512) :
    k0_pay59 (F := Ideal) m v (ix2 r q) = Ideal.exp2 (v (ix2 r q) - m (ix2 r 0)) := by
  pointwise [k0_pay59, log2e, ln2, inv_tau_log2e, ofBits_neg_inf, ofBits_20]
  rfl
theorem pay60 (m : FVec Ideal S512x1 .f32) (v : FVec Ideal S512x512 .f32) (r q : Fin 512) :
    k0_pay60 (F := Ideal) m v (ix2 r q) = Ideal.exp2 (v (ix2 r q) - m (ix2 r 0)) := by
  pointwise [k0_pay60]
  exact pay59 ..
theorem pay53 (m : FVec Ideal S512x1 .f32) (v : FVec Ideal S512x512 .f32) (r q : Fin 512) :
    k0_pay53 (F := Ideal) m v (ix2 r q) = Ideal.exp2 (v (ix2 r q) - m (ix2 r 0)) := by
  pointwise [k0_pay53, log2e, ln2, inv_tau_log2e, ofBits_neg_inf, ofBits_20]
  rfl
theorem pay54 (v : FVec Ideal S512x512 .f32) (r q : Fin 512) :
    k0_pay54 (F := Ideal) v (ix2 r q) = v (ix2 r q) := by
  pointwise [k0_pay54, log2e, ln2, inv_tau_log2e, ofBits_neg_inf, ofBits_20]
theorem pay52 (m : FVec Ideal S512x1 .f32) (v0 v1 v2 v3 : FVec Ideal S512x512 .f32) (r : Fin 512) :
    k0_pay52 (F := Ideal) m v0 v1 v2 v3 (ix2 r 0) = (∑ q, v0 (ix2 r q)) + (∑ q, k0_pay46 (F := Ideal) m v1 (ix2 r q)) + (∑ q, k0_pay48 (F := Ideal) m v2 (ix2 r q)) + (∑ q, k0_pay50 (F := Ideal) m v3 (ix2 r q)) := by
  pointwise [k0_pay52, log2e, ln2, inv_tau_log2e, ofBits_neg_inf, ofBits_20]
theorem pay61 (m : FVec Ideal S512x1 .f32) (r : Fin 512) :
    k0_pay61 (F := Ideal) m (ix2 r 0) = m (ix2 r 0) * ((Real.log 2 : ℝ) : EReal) := by
  pointwise [k0_pay61, log2e, ln2, inv_tau_log2e, ofBits_neg_inf, ofBits_20]
theorem pay62 (m l : FVec Ideal S512x1 .f32) (v4 v5 v6 v7 : FVec Ideal S512x512 .f32) (r : Fin 512) :
    k0_pay62 (F := Ideal) m l v4 v5 v6 v7 (ix2 r 0) = k0_pay61 (F := Ideal) m (ix2 r 0) + Ideal.log (l (ix2 r 0) + (∑ q, v4 (ix2 r q)) + (∑ q, k0_pay55 (F := Ideal) m v5 (ix2 r q)) + (∑ q, k0_pay57 (F := Ideal) m v6 (ix2 r q)) + (∑ q, k0_pay59 (F := Ideal) m v7 (ix2 r q))) := by
  pointwise [k0_pay62, log2e, ln2, inv_tau_log2e, ofBits_neg_inf, ofBits_20]

/-! ## The loss, the probabilities and the gradients -/

theorem pay64 (m o a b : FVec Ideal S512x1 .f32) (r : Fin 512) :
    k0_pay64 (F := Ideal) m o a b (ix3 0 0 r) = (m (ix2 r 0) - o (ix2 r 0)) * ((Real.log 2 : ℝ) : EReal) + (b (ix2 r 0) - a (ix2 r 0)) := by
  pointwise [k0_pay64, k0_pay63, log2e, ln2, inv_tau_log2e, ofBits_neg_inf, ofBits_20]
theorem pay66 (a b : FVec Ideal S512x1 .f32) (v : FVec Ideal S512x512 .f32) (r q : Fin 512) :
    k0_pay66 (F := Ideal) k0_pay42 a b v v (ix2 r q) = if r = q then v (ix2 r q) - Ideal.exp (b (ix2 r 0) - a (ix2 r 0)) else v (ix2 r q) := by
  pointwise [k0_pay66, k0_pay42, k0_pay65, k0_pay63, log2e, ln2, inv_tau_log2e, ofBits_neg_inf, ofBits_20]
  exact select_eye ..
theorem pay67 (a b : FVec Ideal S512x1 .f32) (r : Fin 512) :
    k0_pay67 (F := Ideal) a b (ix2 r 0) = Ideal.div 1 (Ideal.exp (b (ix2 r 0) - a (ix2 r 0))) := by
  pointwise [k0_pay67, k0_pay65, k0_pay63, log2e, ln2, inv_tau_log2e, ofBits_neg_inf, ofBits_20]
theorem pay68 (a b : FVec Ideal S512x1 .f32) (v : FVec Ideal S512x512 .f32) (r q : Fin 512) :
    k0_pay68 (F := Ideal) a b v (ix2 r q) = v (ix2 r q) * k0_pay67 (F := Ideal) a b (ix2 r 0) := by
  pointwise [k0_pay68, log2e, ln2, inv_tau_log2e, ofBits_neg_inf, ofBits_20]
theorem pay69 (a b : FVec Ideal S512x1 .f32) (v : FVec Ideal S512x512 .f32) (r q : Fin 512) :
    k0_pay69 (F := Ideal) a b v (ix2 r q) = v (ix2 r q) * k0_pay67 (F := Ideal) a b (ix2 r 0) := by
  pointwise [k0_pay69, log2e, ln2, inv_tau_log2e, ofBits_neg_inf, ofBits_20]
theorem pay70 (l : FVec Ideal S512x1 .f32) (v : FVec Ideal S512x512 .f32) (r q : Fin 512) :
    k0_pay70 (F := Ideal) l v (ix2 r q) = v (ix2 r q) * l (ix2 r 0) := by
  pointwise [k0_pay70, log2e, ln2, inv_tau_log2e, ofBits_neg_inf, ofBits_20]
theorem pay71 (l : FVec Ideal S512x1 .f32) (v : FVec Ideal S512x512 .f32) (r q : Fin 512) :
    k0_pay71 (F := Ideal) l v (ix2 r q) = v (ix2 r q) * l (ix2 r 0) := by
  pointwise [k0_pay71, log2e, ln2, inv_tau_log2e, ofBits_neg_inf, ofBits_20]
theorem pay72 (l : FVec Ideal S512x1 .f32) (v : FVec Ideal S512x512 .f32) (r q : Fin 512) :
    k0_pay72 (F := Ideal) l v (ix2 r q) = v (ix2 r q) * l (ix2 r 0) := by
  pointwise [k0_pay72, log2e, ln2, inv_tau_log2e, ofBits_neg_inf, ofBits_20]
theorem pay73 (l : FVec Ideal S512x1 .f32) (v : FVec Ideal S512x512 .f32) (r q : Fin 512) :
    k0_pay73 (F := Ideal) l v (ix2 r q) = v (ix2 r q) * l (ix2 r 0) := by
  pointwise [k0_pay73, log2e, ln2, inv_tau_log2e, ofBits_neg_inf, ofBits_20]
theorem pay74 (l : FVec Ideal S512x1 .f32) (v : FVec Ideal S512x512 .f32) (r q : Fin 512) :
    k0_pay74 (F := Ideal) l v (ix2 r q) = v (ix2 r q) * l (ix2 r 0) := by
  pointwise [k0_pay74, log2e, ln2, inv_tau_log2e, ofBits_neg_inf, ofBits_20]
theorem pay75 (l : FVec Ideal S512x1 .f32) (v : FVec Ideal S512x512 .f32) (r q : Fin 512) :
    k0_pay75 (F := Ideal) l v (ix2 r q) = v (ix2 r q) * l (ix2 r 0) := by
  pointwise [k0_pay75, log2e, ln2, inv_tau_log2e, ofBits_neg_inf, ofBits_20]
theorem pay76 (p : FVec Ideal S512x4096 .bf16) (v : FVec Ideal S4096x256 .bf16) (r : Fin 512) (d : Fin 256) :
    k0_pay76 (F := Ideal) p v (ix3 0 r d) = (∑ j, p (ix2 r j) * v (ix2 j d)) * ((20 : ℝ) : EReal) := by
  pointwise [k0_pay76, log2e, ln2, inv_tau_log2e, ofBits_neg_inf, ofBits_20]
theorem pay77 (v8 : FVec Ideal S512x1 .f32) (v10 : FVec Ideal S512x256 .fp8e4m3) (r : Fin 512) (d : Fin 256) :
    k0_pay77 (F := Ideal) v8 v10 (ix2 d r) = v10 (ix2 r d) * v8 (ix2 r 0) := by
  pointwise [k0_pay77, log2e, ln2, inv_tau_log2e, ofBits_neg_inf, ofBits_20]
theorem pay78 (v8 : FVec Ideal S512x1 .f32) (v10 : FVec Ideal S512x256 .fp8e4m3) (acc : FVec Ideal S256x512 .f32) (p : FVec Ideal S512x512 .bf16) (d : Fin 256) (q : Fin 512) :
    k0_pay78 (F := Ideal) v8 v10 acc p (ix2 d q) = acc (ix2 d q) + ∑ r, k0_pay77 (F := Ideal) v8 v10 (ix2 d r) * p (ix2 r q) := by
  pointwise [k0_pay78, log2e, ln2, inv_tau_log2e, ofBits_neg_inf, ofBits_20]
theorem pay79 (v8 : FVec Ideal S512x1 .f32) (v10 : FVec Ideal S512x256 .fp8e4m3) (acc : FVec Ideal S256x512 .f32) (p : FVec Ideal S512x512 .bf16) (d : Fin 256) (q : Fin 512) :
    k0_pay79 (F := Ideal) v8 v10 acc p (ix2 d q) = acc (ix2 d q) + ∑ r, k0_pay77 (F := Ideal) v8 v10 (ix2 d r) * p (ix2 r q) := by
  pointwise [k0_pay79, log2e, ln2, inv_tau_log2e, ofBits_neg_inf, ofBits_20]
theorem pay80 (v : FVec Ideal S256x512 .f32) (d : Fin 256) (q : Fin 512) :
    k0_pay80 (F := Ideal) v (ix2 d q) = v (ix2 d q) := by
  pointwise [k0_pay80, log2e, ln2, inv_tau_log2e, ofBits_neg_inf, ofBits_20]
theorem pay1 (v : FVec Ideal S256x512 .f32) (d : Fin 256) (q : Fin 512) :
    k0_pay1 (F := Ideal) v (ix2 d q) = v (ix2 d q) := by
  pointwise [k0_pay1, log2e, ln2, inv_tau_log2e, ofBits_neg_inf, ofBits_20]
theorem pay81 (u : FVec Ideal S256x512 .bf16) (acc : FVec Ideal S256x512 .f32) (p : FVec Ideal S512x512 .bf16) (d : Fin 256) (q : Fin 512) :
    k0_pay81 (F := Ideal) u acc p (ix2 d q) = acc (ix2 d q) + ∑ r, u (ix2 d r) * p (ix2 r q) := by
  pointwise [k0_pay81, log2e, ln2, inv_tau_log2e, ofBits_neg_inf, ofBits_20]
theorem pay82 (u : FVec Ideal S256x512 .bf16) (acc : FVec Ideal S256x512 .f32) (p : FVec Ideal S512x512 .bf16) (d : Fin 256) (q : Fin 512) :
    k0_pay82 (F := Ideal) u acc p (ix2 d q) = acc (ix2 d q) + ∑ r, u (ix2 d r) * p (ix2 r q) := by
  pointwise [k0_pay82, log2e, ln2, inv_tau_log2e, ofBits_neg_inf, ofBits_20]
theorem pay83 (u : FVec Ideal S256x512 .bf16) (acc : FVec Ideal S256x512 .f32) (p : FVec Ideal S512x512 .bf16) (d : Fin 256) (q : Fin 512) :
    k0_pay83 (F := Ideal) u acc p (ix2 d q) = acc (ix2 d q) + ∑ r, u (ix2 d r) * p (ix2 r q) := by
  pointwise [k0_pay83, log2e, ln2, inv_tau_log2e, ofBits_neg_inf, ofBits_20]
theorem pay84 (u : FVec Ideal S256x512 .bf16) (acc : FVec Ideal S256x512 .f32) (p : FVec Ideal S512x512 .bf16) (d : Fin 256) (q : Fin 512) :
    k0_pay84 (F := Ideal) u acc p (ix2 d q) = acc (ix2 d q) + ∑ r, u (ix2 d r) * p (ix2 r q) := by
  pointwise [k0_pay84, log2e, ln2, inv_tau_log2e, ofBits_neg_inf, ofBits_20]
theorem pay2 (u : FVec Ideal S256x512 .bf16) (acc : FVec Ideal S256x512 .f32) (p : FVec Ideal S512x512 .bf16) (d : Fin 256) (q : Fin 512) :
    k0_pay2 (F := Ideal) u acc p (ix2 d q) = acc (ix2 d q) + ∑ r, u (ix2 d r) * p (ix2 r q) := by
  pointwise [k0_pay2, log2e, ln2, inv_tau_log2e, ofBits_neg_inf, ofBits_20]
theorem pay3 (u : FVec Ideal S256x512 .bf16) (acc : FVec Ideal S256x512 .f32) (p : FVec Ideal S512x512 .bf16) (d : Fin 256) (q : Fin 512) :
    k0_pay3 (F := Ideal) u acc p (ix2 d q) = acc (ix2 d q) + ∑ r, u (ix2 d r) * p (ix2 r q) := by
  pointwise [k0_pay3, log2e, ln2, inv_tau_log2e, ofBits_neg_inf, ofBits_20]
theorem pay4 (v : FVec Ideal S256x512 .f32) (q : Fin 512) (d : Fin 256) :
    k0_pay4 (F := Ideal) v (ix3 0 q d) = v (ix2 d q) * ((20 : ℝ) : EReal) := by
  pointwise [k0_pay4, log2e, ln2, inv_tau_log2e, ofBits_neg_inf, ofBits_20]
theorem pay5 (v : FVec Ideal S256x512 .f32) (q : Fin 512) (d : Fin 256) :
    k0_pay5 (F := Ideal) v (ix3 0 q d) = v (ix2 d q) * ((20 : ℝ) : EReal) := by
  pointwise [k0_pay5, log2e, ln2, inv_tau_log2e, ofBits_neg_inf, ofBits_20]
theorem pay6 (v : FVec Ideal S256x512 .f32) (q : Fin 512) (d : Fin 256) :
    k0_pay6 (F := Ideal) v (ix3 0 q d) = v (ix2 d q) * ((20 : ℝ) : EReal) := by
  pointwise [k0_pay6, log2e, ln2, inv_tau_log2e, ofBits_neg_inf, ofBits_20]
theorem pay7 (v : FVec Ideal S256x512 .f32) (q : Fin 512) (d : Fin 256) :
    k0_pay7 (F := Ideal) v (ix3 0 q d) = v (ix2 d q) * ((20 : ℝ) : EReal) := by
  pointwise [k0_pay7, log2e, ln2, inv_tau_log2e, ofBits_neg_inf, ofBits_20]
theorem pay8 (v : FVec Ideal S256x512 .f32) (q : Fin 512) (d : Fin 256) :
    k0_pay8 (F := Ideal) v (ix3 0 q d) = v (ix2 d q) * ((20 : ℝ) : EReal) := by
  pointwise [k0_pay8, log2e, ln2, inv_tau_log2e, ofBits_neg_inf, ofBits_20]
theorem pay9 (v : FVec Ideal S256x512 .f32) (q : Fin 512) (d : Fin 256) :
    k0_pay9 (F := Ideal) v (ix3 0 q d) = v (ix2 d q) * ((20 : ℝ) : EReal) := by
  pointwise [k0_pay9, log2e, ln2, inv_tau_log2e, ofBits_neg_inf, ofBits_20]
theorem pay10 (v : FVec Ideal S256x512 .f32) (q : Fin 512) (d : Fin 256) :
    k0_pay10 (F := Ideal) v (ix3 0 q d) = v (ix2 d q) * ((20 : ℝ) : EReal) := by
  pointwise [k0_pay10, log2e, ln2, inv_tau_log2e, ofBits_neg_inf, ofBits_20]
theorem pay11 (v : FVec Ideal S256x512 .f32) (q : Fin 512) (d : Fin 256) :
    k0_pay11 (F := Ideal) v (ix3 0 q d) = v (ix2 d q) * ((20 : ℝ) : EReal) := by
  pointwise [k0_pay11, log2e, ln2, inv_tau_log2e, ofBits_neg_inf, ofBits_20]
theorem pay12 (s : FVec Ideal S1x1x4096 .f32) (v : FVec Ideal S1x4096x256 .fp8e4m3) (j : Fin 4096) (d : Fin 256) :
    k0_pay12 (F := Ideal) s v (ix2 j d) = v (ix3 0 j d) * s (ix3 0 0 j) := by
  pointwise [k0_pay12, log2e, ln2, inv_tau_log2e, ofBits_neg_inf, ofBits_20]
theorem pay13 (d : Fin 256) (j : Fin 4096) :
    k0_pay13 (F := Ideal) (ix2 d j) = 0 := by
  pointwise [k0_pay13, log2e, ln2, inv_tau_log2e, ofBits_neg_inf, ofBits_20]

end Cert.KernelIdeal.Payload
-- ==== Proof.Words.lean ====
/-
One grid point of the kernel's body, away from the carried buffers: the values it names, each in terms of the earlier ones.

A middle point's named values are used (`kernelRun0_B`); the first and the last point of a group have the same ones.
-/
module

public import proofs.«01_k».proof.Proof.Payload
public import proofs.«01_k».proof.Proof.Gen.KernelIdeal.Frame

@[expose] public section

set_option maxRecDepth 16384

noncomputable section

open Idealize.ShloMosaic Idealize.ShloMosaic.TcCoe Idealize.SL.Sem

namespace Cert.KernelIdeal

open Cert.KernelIdeal Cert.KernelIdeal.Gen

/-- A grid point's buffers and the blocks they hold: `x0` the row block's codes, `x1` its scales, `x2` all the item codes of the
    group, `x3` their scales, `x4` their corrections. -/
structure Pt where
  c : Dev nD
  i : grid0.Coords
  a2 : Memref sig .tc .vmem S1x512x256 .fp8e4m3
  h2 : a2.IsWhole
  a3 : Memref sig .tc .vmem S1x1x512 .f32
  h3 : a3.IsWhole
  a4 : Memref sig .tc .vmem S1x4096x256 .fp8e4m3
  h4 : a4.IsWhole
  a5 : Memref sig .tc .vmem S1x1x4096 .f32
  h5 : a5.IsWhole
  a6 : Memref sig .tc .vmem S1x1x4096 .f32
  h6 : a6.IsWhole
  a11 : Memref sig .tc .vmem S512x4096 .f32
  a12 : Memref sig .tc .vmem S512x4096 .bf16
  x0 : Vec Ideal S1x512x256 .fp8e4m3
  x1 : Vec Ideal S1x1x512 .f32
  x2 : Vec Ideal S1x4096x256 .fp8e4m3
  x3 : Vec Ideal S1x1x4096 .f32
  x4 : Vec Ideal S1x1x4096 .f32

namespace Pt

variable (p : Pt)

/-! ## The values the body names -/

abbrev r := kernelRun0_B.sl.r (F := Ideal) p.c p.a3 p.h3 p.x1
abbrev r_1 := kernelRun0_B.sl.r_1 (F := Ideal) p.c p.a2 p.h2 p.x0
abbrev r_4 := kernelRun0_B.sl.r_4 (F := Ideal) p.c p.a2 p.h2 p.a3 p.h3 p.a4 p.h4 p.a5 p.h5 p.x0 p.x1 p.x2 p.x3
abbrev r_7 := kernelRun0_B.sl.r_7 (F := Ideal) p.c p.a2 p.h2 p.a3 p.h3 p.a4 p.h4 p.a5 p.h5 p.x0 p.x1 p.x2 p.x3
abbrev r_8 := kernelRun0_B.sl.r_8 (F := Ideal) p.c p.a6 p.h6 p.x4
abbrev r_10 := kernelRun0_B.sl.r_10 (F := Ideal) p.c p.a4 p.h4 p.x2
abbrev r_19 := kernelRun0_B.sl.r_19 (F := Ideal) p.c p.a2 p.h2 p.a3 p.h3 p.x0 p.x1
abbrev r_2 := kernelRun0_B.sl.r_2 (F := Ideal) p.c p.a2 p.h2 p.a3 p.h3 p.a4 p.h4 p.a5 p.h5 p.a6 p.h6 p.x0 p.x1 p.x2 p.x3 p.x4
abbrev r_3 := kernelRun0_B.sl.r_3 (F := Ideal) p.c p.a2 p.h2 p.a3 p.h3 p.a4 p.h4 p.a5 p.h5 p.a6 p.h6 p.x0 p.x1 p.x2 p.x3 p.x4
abbrev r_5 := kernelRun0_B.sl.r_5 (F := Ideal) p.c p.a2 p.h2 p.a3 p.h3 p.a4 p.h4 p.a5 p.h5 p.a6 p.h6 p.x0 p.x1 p.x2 p.x3 p.x4
abbrev r_6 := kernelRun0_B.sl.r_6 (F := Ideal) p.c p.a2 p.h2 p.a3 p.h3 p.a4 p.h4 p.a5 p.h5 p.a6 p.h6 p.x0 p.x1 p.x2 p.x3 p.x4
abbrev r_9 := kernelRun0_B.sl.r_9 (F := Ideal) p.c p.a2 p.h2 p.a3 p.h3 p.a4 p.h4 p.a5 p.h5 p.a6 p.h6 p.x0 p.x1 p.x2 p.x3 p.x4
abbrev r_11 := kernelRun0_B.sl.r_11 (F := Ideal) p.c p.a2 p.h2 p.a3 p.h3 p.a4 p.h4 p.a5 p.h5 p.a6 p.h6 p.x0 p.x1 p.x2 p.x3 p.x4
abbrev r_16 := kernelRun0_B.sl.r_16 (F := Ideal) p.c p.a2 p.h2 p.a3 p.h3 p.a4 p.h4 p.a5 p.h5 p.a6 p.h6 p.x0 p.x1 p.x2 p.x3 p.x4
abbrev HS1_8 := kernelRun0_B.sl.HS1_8 (F := Ideal) p.c p.a2 p.h2 p.a3 p.h3 p.a4 p.h4 p.a5 p.h5 p.a6 p.h6 p.x0 p.x1 p.x2 p.x3 p.x4
abbrev r_13 := kernelRun0_B.sl.r_13 (F := Ideal) p.c p.a2 p.h2 p.a3 p.h3 p.a4 p.h4 p.a5 p.h5 p.a6 p.h6 p.a11 p.x0 p.x1 p.x2 p.x3 p.x4
abbrev r_14 := kernelRun0_B.sl.r_14 (F := Ideal) p.c p.a2 p.h2 p.a3 p.h3 p.a4 p.h4 p.a5 p.h5 p.a6 p.h6 p.a11 p.x0 p.x1 p.x2 p.x3 p.x4
abbrev r_15 := kernelRun0_B.sl.r_15 (F := Ideal) p.c p.a2 p.h2 p.a3 p.h3 p.a4 p.h4 p.a5 p.h5 p.a6 p.h6 p.a11 p.x0 p.x1 p.x2 p.x3 p.x4
abbrev r_17 := kernelRun0_B.sl.r_17 (F := Ideal) p.c p.a2 p.h2 p.a3 p.h3 p.a4 p.h4 p.a5 p.h5 p.a6 p.h6 p.a11 p.x0 p.x1 p.x2 p.x3 p.x4
abbrev r_18 := kernelRun0_B.sl.r_18 (F := Ideal) p.c p.a2 p.h2 p.a3 p.h3 p.a4 p.h4 p.a5 p.h5 p.a6 p.h6 p.a11 p.x0 p.x1 p.x2 p.x3 p.x4
abbrev HS1_9 := kernelRun0_B.sl.HS1_9 (F := Ideal) p.c p.a2 p.h2 p.a3 p.h3 p.a4 p.h4 p.a5 p.h5 p.a6 p.h6 p.a11 p.x0 p.x1 p.x2 p.x3 p.x4
abbrev HS1_10 := kernelRun0_B.sl.HS1_10 (F := Ideal) p.c p.a2 p.h2 p.a3 p.h3 p.a4 p.h4 p.a5 p.h5 p.a6 p.h6 p.a11 p.x0 p.x1 p.x2 p.x3 p.x4
abbrev HS1_11 := kernelRun0_B.sl.HS1_11 (F := Ideal) p.c p.a2 p.h2 p.a3 p.h3 p.a4 p.h4 p.a5 p.h5 p.a6 p.h6 p.a11 p.x0 p.x1 p.x2 p.x3 p.x4
abbrev HS1_12 := kernelRun0_B.sl.HS1_12 (F := Ideal) p.c p.a2 p.h2 p.a3 p.h3 p.a4 p.h4 p.a5 p.h5 p.a6 p.h6 p.a11 p.x0 p.x1 p.x2 p.x3 p.x4
abbrev HS1_13 := kernelRun0_B.sl.HS1_13 (F := Ideal) p.c p.a2 p.h2 p.a3 p.h3 p.a4 p.h4 p.a5 p.h5 p.a6 p.h6 p.a11 p.x0 p.x1 p.x2 p.x3 p.x4
abbrev HS1_14 := kernelRun0_B.sl.HS1_14 (F := Ideal) p.c p.a2 p.h2 p.a3 p.h3 p.a4 p.h4 p.a5 p.h5 p.a6 p.h6 p.a11 p.x0 p.x1 p.x2 p.x3 p.x4
abbrev HS1_15 := kernelRun0_B.sl.HS1_15 (F := Ideal) p.c p.a2 p.h2 p.a3 p.h3 p.a4 p.h4 p.a5 p.h5 p.a6 p.h6 p.a11 p.x0 p.x1 p.x2 p.x3 p.x4
abbrev HS1_16 := kernelRun0_B.sl.HS1_16 (F := Ideal) p.c p.a2 p.h2 p.a3 p.h3 p.a4 p.h4 p.a5 p.h5 p.a6 p.h6 p.a11 p.x0 p.x1 p.x2 p.x3 p.x4
abbrev v205 := kernelRun0_B.sl.v205 (F := Ideal) p.c p.a2 p.h2 p.a3 p.h3 p.a4 p.h4 p.a5 p.h5 p.a6 p.h6 p.a11 p.x0 p.x1 p.x2 p.x3 p.x4
abbrev v214 := kernelRun0_B.sl.v214 (F := Ideal) p.c p.a2 p.h2 p.a3 p.h3 p.a4 p.h4 p.a5 p.h5 p.a6 p.h6 p.a11 p.x0 p.x1 p.x2 p.x3 p.x4
abbrev v224 := kernelRun0_B.sl.v224 (F := Ideal) p.c p.a2 p.h2 p.a3 p.h3 p.a4 p.h4 p.a5 p.h5 p.a6 p.h6 p.a11 p.x0 p.x1 p.x2 p.x3 p.x4
abbrev v234 := kernelRun0_B.sl.v234 (F := Ideal) p.c p.a2 p.h2 p.a3 p.h3 p.a4 p.h4 p.a5 p.h5 p.a6 p.h6 p.a11 p.x0 p.x1 p.x2 p.x3 p.x4
abbrev v244 := kernelRun0_B.sl.v244 (F := Ideal) p.c p.a2 p.h2 p.a3 p.h3 p.a4 p.h4 p.a5 p.h5 p.a6 p.h6 p.a11 p.x0 p.x1 p.x2 p.x3 p.x4
abbrev v254 := kernelRun0_B.sl.v254 (F := Ideal) p.c p.a2 p.h2 p.a3 p.h3 p.a4 p.h4 p.a5 p.h5 p.a6 p.h6 p.a11 p.x0 p.x1 p.x2 p.x3 p.x4
abbrev v264 := kernelRun0_B.sl.v264 (F := Ideal) p.c p.a2 p.h2 p.a3 p.h3 p.a4 p.h4 p.a5 p.h5 p.a6 p.h6 p.a11 p.x0 p.x1 p.x2 p.x3 p.x4
abbrev v274 := kernelRun0_B.sl.v274 (F := Ideal) p.c p.a2 p.h2 p.a3 p.h3 p.a4 p.h4 p.a5 p.h5 p.a6 p.h6 p.a11 p.x0 p.x1 p.x2 p.x3 p.x4
abbrev r_12 := kernelRun0_B.sl.r_12 (F := Ideal) p.c p.i p.a2 p.h2 p.a3 p.h3 p.a4 p.h4 p.a5 p.h5 p.a6 p.h6 p.a11 p.x0 p.x1 p.x2 p.x3 p.x4
abbrev v200 := kernelRun0_B.sl.v200 (F := Ideal) p.c p.i p.a2 p.h2 p.a3 p.h3 p.a4 p.h4 p.a5 p.h5 p.a6 p.h6 p.a11 p.x0 p.x1 p.x2 p.x3 p.x4
abbrev v302 := kernelRun0_B.sl.v302 (F := Ideal) p.c p.i p.a2 p.h2 p.a3 p.h3 p.a4 p.h4 p.a5 p.h5 p.a6 p.h6 p.a11 p.x0 p.x1 p.x2 p.x3 p.x4
abbrev HS1_17 := kernelRun0_B.sl.HS1_17 (F := Ideal) p.c p.i p.a2 p.h2 p.a3 p.h3 p.a4 p.h4 p.a5 p.h5 p.a6 p.h6 p.a11 p.x0 p.x1 p.x2 p.x3 p.x4
abbrev v314 := kernelRun0_B.sl.v314 (F := Ideal) p.c p.i p.a2 p.h2 p.a3 p.h3 p.a4 p.h4 p.a5 p.h5 p.a6 p.h6 p.a11 p.x0 p.x1 p.x2 p.x3 p.x4
abbrev v321 := kernelRun0_B.sl.v321 (F := Ideal) p.c p.i p.a2 p.h2 p.a3 p.h3 p.a4 p.h4 p.a5 p.h5 p.a6 p.h6 p.a11 p.x0 p.x1 p.x2 p.x3 p.x4
abbrev v328 := kernelRun0_B.sl.v328 (F := Ideal) p.c p.i p.a2 p.h2 p.a3 p.h3 p.a4 p.h4 p.a5 p.h5 p.a6 p.h6 p.a11 p.x0 p.x1 p.x2 p.x3 p.x4
abbrev v335 := kernelRun0_B.sl.v335 (F := Ideal) p.c p.i p.a2 p.h2 p.a3 p.h3 p.a4 p.h4 p.a5 p.h5 p.a6 p.h6 p.a11 p.x0 p.x1 p.x2 p.x3 p.x4
abbrev v342 := kernelRun0_B.sl.v342 (F := Ideal) p.c p.i p.a2 p.h2 p.a3 p.h3 p.a4 p.h4 p.a5 p.h5 p.a6 p.h6 p.a11 p.x0 p.x1 p.x2 p.x3 p.x4
abbrev v349 := kernelRun0_B.sl.v349 (F := Ideal) p.c p.i p.a2 p.h2 p.a3 p.h3 p.a4 p.h4 p.a5 p.h5 p.a6 p.h6 p.a11 p.x0 p.x1 p.x2 p.x3 p.x4
abbrev v356 := kernelRun0_B.sl.v356 (F := Ideal) p.c p.i p.a2 p.h2 p.a3 p.h3 p.a4 p.h4 p.a5 p.h5 p.a6 p.h6 p.a11 p.x0 p.x1 p.x2 p.x3 p.x4
abbrev v363 := kernelRun0_B.sl.v363 (F := Ideal) p.c p.i p.a2 p.h2 p.a3 p.h3 p.a4 p.h4 p.a5 p.h5 p.a6 p.h6 p.a11 p.x0 p.x1 p.x2 p.x3 p.x4
abbrev HS2_8 := kernelRun0_B.sl.HS2_8 (F := Ideal) p.c p.i p.a2 p.h2 p.a3 p.h3 p.a4 p.h4 p.a5 p.h5 p.a6 p.h6 p.a11 p.x0 p.x1 p.x2 p.x3 p.x4
abbrev v370 := kernelRun0_B.sl.v370 (F := Ideal) p.c p.i p.a2 p.h2 p.a3 p.h3 p.a4 p.h4 p.a5 p.h5 p.a6 p.h6 p.a11 p.a12 p.x0 p.x1 p.x2 p.x3 p.x4
abbrev v385 := kernelRun0_B.sl.v385 (F := Ideal) p.c p.i p.a2 p.h2 p.a3 p.h3 p.a4 p.h4 p.a5 p.h5 p.a6 p.h6 p.a11 p.a12 p.x0 p.x1 p.x2 p.x3 p.x4
abbrev v392 := kernelRun0_B.sl.v392 (F := Ideal) p.c p.i p.a2 p.h2 p.a3 p.h3 p.a4 p.h4 p.a5 p.h5 p.a6 p.h6 p.a11 p.a12 p.x0 p.x1 p.x2 p.x3 p.x4
abbrev v399 := kernelRun0_B.sl.v399 (F := Ideal) p.c p.i p.a2 p.h2 p.a3 p.h3 p.a4 p.h4 p.a5 p.h5 p.a6 p.h6 p.a11 p.a12 p.x0 p.x1 p.x2 p.x3 p.x4
abbrev v406 := kernelRun0_B.sl.v406 (F := Ideal) p.c p.i p.a2 p.h2 p.a3 p.h3 p.a4 p.h4 p.a5 p.h5 p.a6 p.h6 p.a11 p.a12 p.x0 p.x1 p.x2 p.x3 p.x4
abbrev v413 := kernelRun0_B.sl.v413 (F := Ideal) p.c p.i p.a2 p.h2 p.a3 p.h3 p.a4 p.h4 p.a5 p.h5 p.a6 p.h6 p.a11 p.a12 p.x0 p.x1 p.x2 p.x3 p.x4
abbrev v420 := kernelRun0_B.sl.v420 (F := Ideal) p.c p.i p.a2 p.h2 p.a3 p.h3 p.a4 p.h4 p.a5 p.h5 p.a6 p.h6 p.a11 p.a12 p.x0 p.x1 p.x2 p.x3 p.x4
abbrev v427 := kernelRun0_B.sl.v427 (F := Ideal) p.c p.i p.a2 p.h2 p.a3 p.h3 p.a4 p.h4 p.a5 p.h5 p.a6 p.h6 p.a11 p.a12 p.x0 p.x1 p.x2 p.x3 p.x4
abbrev v434 := kernelRun0_B.sl.v434 (F := Ideal) p.c p.i p.a2 p.h2 p.a3 p.h3 p.a4 p.h4 p.a5 p.h5 p.a6 p.h6 p.a11 p.a12 p.x0 p.x1 p.x2 p.x3 p.x4

/-- The block's row scales, as loaded. -/
abbrev ldUs := View.readAt (Elt Ideal) p.a3.view (Rect.unit (s := S1x1x512) ![0, 0, 0] S1x1x512.size inb_S1x1x512_S1x1x512_0_0_0).toLoadRect (p.h3.unread p.x1)
/-- The block's codes, as loaded. -/
abbrev ldU := View.readAt (Elt Ideal) p.a2.view (Rect.unit (s := S1x512x256) ![0, 0, 0] S1x512x256.size inb_S1x512x256_S1x512x256_0_0_0).toLoadRect (p.h2.unread p.x0)
abbrev ldV0 := View.readAt (Elt Ideal) p.a4.view (Rect.unit (s := S1x4096x256) ![0, 0, 0] S1x512x256.size inb_S1x4096x256_S1x512x256_0_0_0).toLoadRect (p.h4.unread p.x2)
abbrev ldS0 := View.readAt (Elt Ideal) p.a5.view (Rect.unit (s := S1x1x4096) ![0, 0, 0] S1x1x512.size inb_S1x1x4096_S1x1x512_0_0_0).toLoadRect (p.h5.unread p.x3)
abbrev ldQ0 := View.readAt (Elt Ideal) p.a6.view (Rect.unit (s := S1x1x4096) ![0, 0, 0] S1x1x512.size inb_S1x1x4096_S1x1x512_0_0_0).toLoadRect (p.h6.unread p.x4)
abbrev ldV1 := View.readAt (Elt Ideal) p.a4.view (Rect.unit (s := S1x4096x256) ![0, 512, 0] S1x512x256.size inb_S1x4096x256_S1x512x256_0_512_0).toLoadRect (p.h4.unread p.x2)
abbrev ldS1 := View.readAt (Elt Ideal) p.a5.view (Rect.unit (s := S1x1x4096) ![0, 0, 512] S1x1x512.size inb_S1x1x4096_S1x1x512_0_0_512).toLoadRect (p.h5.unread p.x3)
abbrev ldQ1 := View.readAt (Elt Ideal) p.a6.view (Rect.unit (s := S1x1x4096) ![0, 0, 512] S1x1x512.size inb_S1x1x4096_S1x1x512_0_0_512).toLoadRect (p.h6.unread p.x4)
abbrev ldV2 := View.readAt (Elt Ideal) p.a4.view (Rect.unit (s := S1x4096x256) ![0, 1024, 0] S1x512x256.size inb_S1x4096x256_S1x512x256_0_1024_0).toLoadRect (p.h4.unread p.x2)
abbrev ldS2 := View.readAt (Elt Ideal) p.a5.view (Rect.unit (s := S1x1x4096) ![0, 0, 1024] S1x1x512.size inb_S1x1x4096_S1x1x512_0_0_1024).toLoadRect (p.h5.unread p.x3)
abbrev ldQ2 := View.readAt (Elt Ideal) p.a6.view (Rect.unit (s := S1x1x4096) ![0, 0, 1024] S1x1x512.size inb_S1x1x4096_S1x1x512_0_0_1024).toLoadRect (p.h6.unread p.x4)
abbrev ldV3 := View.readAt (Elt Ideal) p.a4.view (Rect.unit (s := S1x4096x256) ![0, 1536, 0] S1x512x256.size inb_S1x4096x256_S1x512x256_0_1536_0).toLoadRect (p.h4.unread p.x2)
abbrev ldS3 := View.readAt (Elt Ideal) p.a5.view (Rect.unit (s := S1x1x4096) ![0, 0, 1536] S1x1x512.size inb_S1x1x4096_S1x1x512_0_0_1536).toLoadRect (p.h5.unread p.x3)
abbrev ldQ3 := View.readAt (Elt Ideal) p.a6.view (Rect.unit (s := S1x1x4096) ![0, 0, 1536] S1x1x512.size inb_S1x1x4096_S1x1x512_0_0_1536).toLoadRect (p.h6.unread p.x4)
abbrev ldV4 := View.readAt (Elt Ideal) p.a4.view (Rect.unit (s := S1x4096x256) ![0, 2048, 0] S1x512x256.size inb_S1x4096x256_S1x512x256_0_2048_0).toLoadRect (p.h4.unread p.x2)
abbrev ldS4 := View.readAt (Elt Ideal) p.a5.view (Rect.unit (s := S1x1x4096) ![0, 0, 2048] S1x1x512.size inb_S1x1x4096_S1x1x512_0_0_2048).toLoadRect (p.h5.unread p.x3)
abbrev ldQ4 := View.readAt (Elt Ideal) p.a6.view (Rect.unit (s := S1x1x4096) ![0, 0, 2048] S1x1x512.size inb_S1x1x4096_S1x1x512_0_0_2048).toLoadRect (p.h6.unread p.x4)
abbrev ldV5 := View.readAt (Elt Ideal) p.a4.view (Rect.unit (s := S1x4096x256) ![0, 2560, 0] S1x512x256.size inb_S1x4096x256_S1x512x256_0_2560_0).toLoadRect (p.h4.unread p.x2)
abbrev ldS5 := View.readAt (Elt Ideal) p.a5.view (Rect.unit (s := S1x1x4096) ![0, 0, 2560] S1x1x512.size inb_S1x1x4096_S1x1x512_0_0_2560).toLoadRect (p.h5.unread p.x3)
abbrev ldQ5 := View.readAt (Elt Ideal) p.a6.view (Rect.unit (s := S1x1x4096) ![0, 0, 2560] S1x1x512.size inb_S1x1x4096_S1x1x512_0_0_2560).toLoadRect (p.h6.unread p.x4)
abbrev ldV6 := View.readAt (Elt Ideal) p.a4.view (Rect.unit (s := S1x4096x256) ![0, 3072, 0] S1x512x256.size inb_S1x4096x256_S1x512x256_0_3072_0).toLoadRect (p.h4.unread p.x2)
abbrev ldS6 := View.readAt (Elt Ideal) p.a5.view (Rect.unit (s := S1x1x4096) ![0, 0, 3072] S1x1x512.size inb_S1x1x4096_S1x1x512_0_0_3072).toLoadRect (p.h5.unread p.x3)
abbrev ldQ6 := View.readAt (Elt Ideal) p.a6.view (Rect.unit (s := S1x1x4096) ![0, 0, 3072] S1x1x512.size inb_S1x1x4096_S1x1x512_0_0_3072).toLoadRect (p.h6.unread p.x4)
abbrev ldV7 := View.readAt (Elt Ideal) p.a4.view (Rect.unit (s := S1x4096x256) ![0, 3584, 0] S1x512x256.size inb_S1x4096x256_S1x512x256_0_3584_0).toLoadRect (p.h4.unread p.x2)
abbrev ldS7 := View.readAt (Elt Ideal) p.a5.view (Rect.unit (s := S1x1x4096) ![0, 0, 3584] S1x1x512.size inb_S1x1x4096_S1x1x512_0_0_3584).toLoadRect (p.h5.unread p.x3)
abbrev ldQ7 := View.readAt (Elt Ideal) p.a6.view (Rect.unit (s := S1x1x4096) ![0, 0, 3584] S1x1x512.size inb_S1x1x4096_S1x1x512_0_0_3584).toLoadRect (p.h6.unread p.x4)

/-- The zeros a product is accumulated onto. -/
abbrev zeros : FVec Ideal S512x512 .f32 := constant (F := Ideal) S512x512 .f32 0x00000000#32

theorem r_eq : p.r = k0_pay14 (F := Ideal) p.ldUs := rfl
theorem r_1_eq : p.r_1 = k0_pay15 (F := Ideal) p.ldU := rfl
theorem r_2_eq : p.r_2 = k0_pay18 (F := Ideal) p.ldUs p.ldU p.ldV0 p.ldS0 p.ldQ0 := rfl
theorem r_3_eq : p.r_3 = k0_pay21 (F := Ideal) p.r p.r_1 p.r_2 p.ldV1 p.ldS1 p.ldQ1 := rfl
theorem r_4_eq : p.r_4 = k0_pay22 (F := Ideal) p.r p.r_1 p.ldV2 p.ldS2 := rfl
theorem r_5_eq : p.r_5 = k0_pay27 (F := Ideal) p.r p.r_1 p.r_3 p.r_4 p.ldQ2 p.ldV3 p.ldS3 p.ldQ3 := rfl
theorem r_6_eq : p.r_6 = k0_pay30 (F := Ideal) p.r p.r_1 p.r_5 p.ldV4 p.ldS4 p.ldQ4 := rfl
theorem r_7_eq : p.r_7 = k0_pay31 (F := Ideal) p.r p.r_1 p.ldV5 p.ldS5 := rfl
theorem r_8_eq : p.r_8 = k0_pay32 (F := Ideal) p.ldQ5 := rfl
theorem r_9_eq : p.r_9 = k0_pay37 (F := Ideal) p.r p.r_1 p.r_6 p.r_7 p.r_8 p.ldV6 p.ldS6 p.ldQ6 := rfl
theorem r_10_eq : p.r_10 = k0_pay38 (F := Ideal) p.ldV7 := rfl
theorem r_11_eq : p.r_11 = k0_pay41 (F := Ideal) p.r p.r_1 p.r_9 p.r_10 zeros p.ldS7 p.ldQ7 := rfl
theorem r_12_eq : p.r_12 = k0_pay43 (F := Ideal) p.v200 := rfl
theorem r_13_eq : p.r_13 = k0_pay44 (F := Ideal) p.r p.r_1 p.r_9 p.r_10 zeros p.ldS7 p.ldQ7 p.v205 := rfl
theorem r_14_eq : p.r_14 = k0_pay52 (F := Ideal) p.r_11 p.r_13 p.v214 p.v224 p.v234 := rfl
theorem r_15_eq : p.r_15 = k0_pay53 (F := Ideal) p.r_11 p.v244 := rfl
theorem r_16_eq : p.r_16 = k0_pay61 (F := Ideal) p.r_11 := rfl
theorem r_17_eq : p.r_17 = k0_pay62 (F := Ideal) p.r_11 p.r_14 p.r_15 p.v254 p.v264 p.v274 := rfl
theorem r_18_eq : p.r_18 = k0_pay67 (F := Ideal) p.r_16 p.r_17 := rfl
theorem r_19_eq : p.r_19 = k0_pay77 (F := Ideal) p.r p.r_1 := rfl
theorem HS1_8_eq : p.HS1_8 = [⟨Rect.unit (s := S512x4096) ![0, 3584] S512x512.size inb_S512x4096_S512x512_0_3584, k0_pay40 (F := Ideal) p.r p.r_1 p.r_10 zeros p.ldS7 p.ldQ7⟩,
    ⟨Rect.unit (s := S512x4096) ![0, 3072] S512x512.size inb_S512x4096_S512x512_0_3072, k0_pay36 (F := Ideal) p.r p.r_1 p.ldV6 p.ldS6 p.ldQ6⟩,
    ⟨Rect.unit (s := S512x4096) ![0, 2560] S512x512.size inb_S512x4096_S512x512_0_2560, k0_pay34 (F := Ideal) p.r_7 p.r_8⟩,
    ⟨Rect.unit (s := S512x4096) ![0, 2048] S512x512.size inb_S512x4096_S512x512_0_2048, k0_pay29 (F := Ideal) p.r p.r_1 p.ldV4 p.ldS4 p.ldQ4⟩,
    ⟨Rect.unit (s := S512x4096) ![0, 1536] S512x512.size inb_S512x4096_S512x512_0_1536, k0_pay26 (F := Ideal) p.r p.r_1 p.ldV3 p.ldS3 p.ldQ3⟩,
    ⟨Rect.unit (s := S512x4096) ![0, 1024] S512x512.size inb_S512x4096_S512x512_0_1024, k0_pay24 (F := Ideal) p.r_4 p.ldQ2⟩,
    ⟨Rect.unit (s := S512x4096) ![0, 512] S512x512.size inb_S512x4096_S512x512_0_512, k0_pay20 (F := Ideal) p.r p.r_1 p.ldV1 p.ldS1 p.ldQ1⟩,
    ⟨Rect.unit (s := S512x4096) ![0, 0] S512x512.size inb_S512x4096_S512x512_0_0, k0_pay17 (F := Ideal) p.ldUs p.ldU p.ldV0 p.ldS0 p.ldQ0⟩] := rfl
theorem HS1_9_eq : p.HS1_9 = ⟨Rect.unit (s := S512x4096) ![0, 0] S512x512.size inb_S512x4096_S512x512_0_0, k0_pay45 (F := Ideal) p.r p.r_1 p.r_9 p.r_10 zeros p.ldS7 p.ldQ7 p.v205⟩ :: p.HS1_8 := rfl
theorem HS1_10_eq : p.HS1_10 = ⟨Rect.unit (s := S512x4096) ![0, 512] S512x512.size inb_S512x4096_S512x512_0_512, k0_pay47 (F := Ideal) p.r_11 p.v214⟩ :: p.HS1_9 := rfl
theorem HS1_11_eq : p.HS1_11 = ⟨Rect.unit (s := S512x4096) ![0, 1024] S512x512.size inb_S512x4096_S512x512_0_1024, k0_pay49 (F := Ideal) p.r_11 p.v224⟩ :: p.HS1_10 := rfl
theorem HS1_12_eq : p.HS1_12 = ⟨Rect.unit (s := S512x4096) ![0, 1536] S512x512.size inb_S512x4096_S512x512_0_1536, k0_pay51 (F := Ideal) p.r_11 p.v234⟩ :: p.HS1_11 := rfl
theorem HS1_13_eq : p.HS1_13 = ⟨Rect.unit (s := S512x4096) ![0, 2048] S512x512.size inb_S512x4096_S512x512_0_2048, k0_pay54 (F := Ideal) p.r_15⟩ :: p.HS1_12 := rfl
theorem HS1_14_eq : p.HS1_14 = ⟨Rect.unit (s := S512x4096) ![0, 2560] S512x512.size inb_S512x4096_S512x512_0_2560, k0_pay56 (F := Ideal) p.r_11 p.v254⟩ :: p.HS1_13 := rfl
theorem HS1_15_eq : p.HS1_15 = ⟨Rect.unit (s := S512x4096) ![0, 3072] S512x512.size inb_S512x4096_S512x512_0_3072, k0_pay58 (F := Ideal) p.r_11 p.v264⟩ :: p.HS1_14 := rfl
theorem HS1_16_eq : p.HS1_16 = ⟨Rect.unit (s := S512x4096) ![0, 3584] S512x512.size inb_S512x4096_S512x512_0_3584, k0_pay60 (F := Ideal) p.r_11 p.v274⟩ :: p.HS1_15 := rfl
theorem HS1_17_eq : p.HS1_17 = ⟨Rect.unit (s := S512x4096) (k0_off1 p.i) S512x512.size (k0_off1_inb p.i), k0_pay66 (F := Ideal) k0_pay42 p.r_16 p.r_17 p.v302 p.v302⟩ :: p.HS1_16 := rfl
theorem HS2_8_eq : p.HS2_8 = [⟨Rect.unit (s := S512x4096) ![0, 3584] S512x512.size inb_S512x4096_S512x512_0_3584, k0_pay75 (F := Ideal) p.r_18 p.v363⟩,
    ⟨Rect.unit (s := S512x4096) ![0, 3072] S512x512.size inb_S512x4096_S512x512_0_3072, k0_pay74 (F := Ideal) p.r_18 p.v356⟩,
    ⟨Rect.unit (s := S512x4096) ![0, 2560] S512x512.size inb_S512x4096_S512x512_0_2560, k0_pay73 (F := Ideal) p.r_18 p.v349⟩,
    ⟨Rect.unit (s := S512x4096) ![0, 2048] S512x512.size inb_S512x4096_S512x512_0_2048, k0_pay72 (F := Ideal) p.r_18 p.v342⟩,
    ⟨Rect.unit (s := S512x4096) ![0, 1536] S512x512.size inb_S512x4096_S512x512_0_1536, k0_pay71 (F := Ideal) p.r_18 p.v335⟩,
    ⟨Rect.unit (s := S512x4096) ![0, 1024] S512x512.size inb_S512x4096_S512x512_0_1024, k0_pay70 (F := Ideal) p.r_18 p.v328⟩,
    ⟨Rect.unit (s := S512x4096) ![0, 512] S512x512.size inb_S512x4096_S512x512_0_512, k0_pay69 (F := Ideal) p.r_16 p.r_17 p.v321⟩,
    ⟨Rect.unit (s := S512x4096) ![0, 0] S512x512.size inb_S512x4096_S512x512_0_0, k0_pay68 (F := Ideal) p.r_16 p.r_17 p.v314⟩] := rfl

end Pt

end Cert.KernelIdeal
-- ==== Proof.Strips.lean ====
/-
The scratch buffers are written and read in column strips: a store puts a block of `W` columns, starting at column `o`,
over what was there, and a load takes such a block. The lemmas here read stores and loads at an entry, and read a maximum
or a sum taken strip by strip as the maximum or the sum over the whole row.
-/
module

public import Idealize.ShloMosaic.Lib.Pipeline.ValueKit
public import Idealize.ShloMosaic.Lib.Pointwise
public import proofs.«01_k».proof.Proof.Math

@[expose] public section

set_option maxRecDepth 16384

noncomputable section

open Idealize.ShloMosaic Idealize.ShloMosaic.TcCoe

namespace Cert.Strip

variable {Val : EltTy → Type} [∀ e, Nonempty (Val e)] {e : EltTy} {R C W : ℕ}

/-- The entry a strip that starts at column `o` puts at its own place `(r, q)`. -/
theorem idx_unit (off : Fin 2 → ℕ) (inb) (o : ℕ) (h0 : off 0 = 0) (h1 : off 1 = o) (r : Fin R) (q : Fin W) (hq : o + q.val < C) :
    (Rect.unit (s := ⟨2, ![R, C]⟩) off ![R, W] inb).idx (ix2 r q) = ix2 r ⟨o + q.val, hq⟩ := by
  funext a
  refine Fin.ext ?_
  refine (ValueKit.rect_emb_unit_val off ![R, W] inb (ix2 r q) a).trans ?_
  match a with
  | ⟨0, _⟩ => exact (congrArg (· + r.val) h0).trans (Nat.zero_add _)
  | ⟨1, _⟩ => exact congrArg (· + q.val) h1

/-- A store of a strip, read inside the strip: the strip's own value. -/
theorem canon_in (off : Fin 2 → ℕ) (inb) (o : ℕ) (h0 : off 0 = 0) (h1 : off 1 = o)
    (w : (Rect.unit (s := ⟨2, ![R, C]⟩) off ![R, W] inb).shape.Idx → Val e) (L : List (View.Piece Val ⟨2, ![R, C]⟩ e)) (r : Fin R) (j : Fin C)
    (q : Fin W) (hq : j.val = o + q.val) :
    View.canon (Val := Val) (s := ⟨2, ![R, C]⟩) (e := e) (⟨Rect.unit (s := ⟨2, ![R, C]⟩) off ![R, W] inb, w⟩ :: L) (ix2 r j) = w (ix2 r q) := by
  have e1 : ix2 r j = (Rect.unit (s := ⟨2, ![R, C]⟩) off ![R, W] inb).emb (ix2 r q) :=
    Eq.trans (congrArg (ix2 r) (Fin.ext hq)) (idx_unit off inb o h0 h1 r q (hq ▸ j.isLt)).symm
  rw [e1]
  exact View.canon_cons_emb _ w L _

/-- A store of a strip, read outside the strip: what was there before. -/
theorem canon_out (off : Fin 2 → ℕ) (inb) (o : ℕ) (h1 : off 1 = o)
    (w : (Rect.unit (s := ⟨2, ![R, C]⟩) off ![R, W] inb).shape.Idx → Val e) (L : List (View.Piece Val ⟨2, ![R, C]⟩ e)) (r : Fin R) (j : Fin C)
    (h : j.val < o ∨ o + W ≤ j.val) :
    View.canon (Val := Val) (s := ⟨2, ![R, C]⟩) (e := e) (⟨Rect.unit (s := ⟨2, ![R, C]⟩) off ![R, W] inb, w⟩ :: L) (ix2 r j)
      = View.canon (Val := Val) (s := ⟨2, ![R, C]⟩) (e := e) L (ix2 r j) := by
  refine View.canon_cons_of_not_mem _ L fun hy => ?_
  obtain ⟨x, hx⟩ := (Rect.unit (s := ⟨2, ![R, C]⟩) off ![R, W] inb).exists_idx_of_mem hy
  have hu := ValueKit.rect_emb_unit_val (s := ⟨2, ![R, C]⟩) off ![R, W] inb x (1 : Fin 2)
  have hl : (x (1 : Fin 2)).val < W := (x (1 : Fin 2)).isLt
  have hj : ((Rect.unit (s := ⟨2, ![R, C]⟩) off ![R, W] inb).emb x (1 : Fin 2)).val = j.val :=
    congrArg (fun z : (⟨2, ![R, C]⟩ : Shape).Idx => (z (1 : Fin 2)).val) hx
  omega

/-- A load of a strip, read at its place `(r, q)`: what the buffer holds at column `o + q`. -/
theorem load {sig : RefSig} {κ : Kind} {sp : Space} (v : View sig κ sp ⟨2, ![R, C]⟩ e) (off : Fin 2 → ℕ) (inb) (o : ℕ) (h0 : off 0 = 0) (h1 : off 1 = o)
    (L : List (View.Piece Val ⟨2, ![R, C]⟩ e)) (r : Fin R) (q : Fin W) (hq : o + q.val < C) :
    v.readCov (Val := Val) L (Rect.unit (s := ⟨2, ![R, C]⟩) off ![R, W] inb).toLoadRect (ix2 r q)
      = View.canon (Val := Val) (s := ⟨2, ![R, C]⟩) (e := e) L (ix2 r ⟨o + q.val, hq⟩) := by
  rw [View.readCov_eq_canon']
  exact congrArg _ (idx_unit off inb o h0 h1 r q hq)

/-- Strips stored from the left: if the strip holds `G` at its columns and everything left of it holds `G`, everything up
    to its right edge does. -/
theorem below (o : ℕ) (inb) (G : Fin R → Fin C → Val e)
    (w : (Rect.unit (s := ⟨2, ![R, C]⟩) ![0, o] ![R, W] inb).shape.Idx → Val e) (L : List (View.Piece Val ⟨2, ![R, C]⟩ e))
    (hw : ∀ r q (hq : o + q.val < C), w (ix2 r q) = G r ⟨o + q.val, hq⟩)
    (hL : ∀ r (j : Fin C), j.val < o → View.canon (Val := Val) (s := ⟨2, ![R, C]⟩) (e := e) L (ix2 r j) = G r j)
    (n : ℕ) (hn : n = o + W) (r : Fin R) (j : Fin C) (hj : j.val < n) :
    View.canon (Val := Val) (s := ⟨2, ![R, C]⟩) (e := e) (⟨Rect.unit (s := ⟨2, ![R, C]⟩) ![0, o] ![R, W] inb, w⟩ :: L) (ix2 r j) = G r j := by
  subst hn
  by_cases h : j.val < o
  · rw [canon_out ![0, o] inb o rfl w L r j (.inl h), hL r j h]
  · have hjo : o + (j.val - o) = j.val := by omega
    rw [canon_in ![0, o] inb o rfl rfl w L r j ⟨j.val - o, by omega⟩ hjo.symm, hw r ⟨j.val - o, by omega⟩ (hjo.symm ▸ j.isLt)]
    exact congrArg (G r) (Fin.ext hjo)

/-- One strip of a buffer holding `A` left of column `o` and `B` from there on is replaced by `A`. -/
theorem update (o : ℕ) (inb) (A B : Fin R → Fin C → Val e)
    (w : (Rect.unit (s := ⟨2, ![R, C]⟩) ![0, o] ![R, W] inb).shape.Idx → Val e) (L : List (View.Piece Val ⟨2, ![R, C]⟩ e))
    (hw : ∀ r q (hq : o + q.val < C), w (ix2 r q) = A r ⟨o + q.val, hq⟩)
    (hL : ∀ r (j : Fin C), View.canon (Val := Val) (s := ⟨2, ![R, C]⟩) (e := e) L (ix2 r j) = if j.val < o then A r j else B r j)
    (n : ℕ) (hn : n = o + W) (r : Fin R) (j : Fin C) :
    View.canon (Val := Val) (s := ⟨2, ![R, C]⟩) (e := e) (⟨Rect.unit (s := ⟨2, ![R, C]⟩) ![0, o] ![R, W] inb, w⟩ :: L) (ix2 r j)
      = if j.val < n then A r j else B r j := by
  subst hn
  by_cases h : j.val < o + W
  · rw [if_pos h]
    exact below o inb A w L hw (fun r j hj => (hL r j).trans (if_pos hj)) _ rfl r j h
  · rw [if_neg h, canon_out ![0, o] inb o rfl w L r j (.inr (by omega)), hL r j, if_neg (by omega)]

/-- A load of a block of rows of a group. -/
theorem ld_rows {G D : ℕ} (o : ℕ) (inb) (X : (⟨3, ![G, R, D]⟩ : Shape).Idx → Val e) (g : Fin 1) (q : Fin W) (d : Fin D) (hG : 0 + g.val < G) (hq : o + q.val < R) :
    View.ld X (Rect.unit (s := ⟨3, ![G, R, D]⟩) ![0, o, 0] ![1, W, D] inb) (ix3 g q d) = X (ix3 ⟨0 + g.val, hG⟩ ⟨o + q.val, hq⟩ d) := by
  refine congrArg X ?_
  funext a
  refine Fin.ext ?_
  refine (ValueKit.rect_emb_unit_val (s := ⟨3, ![G, R, D]⟩) ![0, o, 0] ![1, W, D] inb (ix3 g q d) a).trans ?_
  match a with
  | ⟨0, _⟩ => rfl
  | ⟨1, _⟩ => rfl
  | ⟨2, _⟩ => exact Nat.zero_add _

/-- A load of a block of a row vector. -/
theorem ld_row {G A : ℕ} (o : ℕ) (inb) (X : (⟨3, ![G, A, C]⟩ : Shape).Idx → Val e) (g b : Fin 1) (q : Fin W) (hG : 0 + g.val < G) (hA : 0 + b.val < A) (hq : o + q.val < C) :
    View.ld X (Rect.unit (s := ⟨3, ![G, A, C]⟩) ![0, 0, o] ![1, 1, W] inb) (ix3 g b q) = X (ix3 ⟨0 + g.val, hG⟩ ⟨0 + b.val, hA⟩ ⟨o + q.val, hq⟩) := by
  refine congrArg X ?_
  funext a
  refine Fin.ext ?_
  refine (ValueKit.rect_emb_unit_val (s := ⟨3, ![G, A, C]⟩) ![0, 0, o] ![1, 1, W] inb (ix3 g b q) a).trans ?_
  match a with
  | ⟨0, _⟩ => rfl
  | ⟨1, _⟩ => rfl
  | ⟨2, _⟩ => rfl

/-- A load of a strip from a known buffer. -/
theorem ld (o : ℕ) (inb) (X : (⟨2, ![R, C]⟩ : Shape).Idx → Val e) (r : Fin R) (q : Fin W) (hq : o + q.val < C) :
    View.ld X (Rect.unit (s := ⟨2, ![R, C]⟩) ![0, o] ![R, W] inb) (ix2 r q) = X (ix2 r ⟨o + q.val, hq⟩) :=
  congrArg X (idx_unit ![0, o] inb o rfl rfl r q hq)

/-- A store of a block of rows of one group, read inside the block. -/
theorem canon_in3 {D : ℕ} (o : ℕ) (inb) (w : (Rect.unit (s := ⟨3, ![1, R, D]⟩) ![0, o, 0] ![1, W, D] inb).shape.Idx → Val e)
    (L : List (View.Piece Val ⟨3, ![1, R, D]⟩ e)) (j : Fin R) (d : Fin D) (q : Fin W) (hq : j.val = o + q.val) :
    View.canon (Val := Val) (s := ⟨3, ![1, R, D]⟩) (e := e) (⟨Rect.unit (s := ⟨3, ![1, R, D]⟩) ![0, o, 0] ![1, W, D] inb, w⟩ :: L) (ix3 0 j d) = w (ix3 0 q d) := by
  have e1 : ix3 0 j d = (Rect.unit (s := ⟨3, ![1, R, D]⟩) ![0, o, 0] ![1, W, D] inb).emb (ix3 0 q d) := by
    funext a
    refine Fin.ext ?_
    refine Eq.trans ?_ (ValueKit.rect_emb_unit_val (s := ⟨3, ![1, R, D]⟩) ![0, o, 0] ![1, W, D] inb (ix3 0 q d) a).symm
    match a with
    | ⟨0, _⟩ => rfl
    | ⟨1, _⟩ => exact hq
    | ⟨2, _⟩ => exact (Nat.zero_add _).symm
  rw [e1]
  exact View.canon_cons_emb _ w L _

/-- A store of a block of rows of one group, read outside the block. -/
theorem canon_out3 {D : ℕ} (o : ℕ) (inb) (w : (Rect.unit (s := ⟨3, ![1, R, D]⟩) ![0, o, 0] ![1, W, D] inb).shape.Idx → Val e)
    (L : List (View.Piece Val ⟨3, ![1, R, D]⟩ e)) (j : Fin R) (d : Fin D) (h : j.val < o ∨ o + W ≤ j.val) :
    View.canon (Val := Val) (s := ⟨3, ![1, R, D]⟩) (e := e) (⟨Rect.unit (s := ⟨3, ![1, R, D]⟩) ![0, o, 0] ![1, W, D] inb, w⟩ :: L) (ix3 0 j d)
      = View.canon (Val := Val) (s := ⟨3, ![1, R, D]⟩) (e := e) L (ix3 0 j d) := by
  refine View.canon_cons_of_not_mem _ L fun hy => ?_
  obtain ⟨x, hx⟩ := (Rect.unit (s := ⟨3, ![1, R, D]⟩) ![0, o, 0] ![1, W, D] inb).exists_idx_of_mem hy
  have hu : ((Rect.unit (s := ⟨3, ![1, R, D]⟩) ![0, o, 0] ![1, W, D] inb).emb x (1 : Fin 3)).val = o + (x (1 : Fin 3)).val :=
    ValueKit.rect_emb_unit_val (s := ⟨3, ![1, R, D]⟩) ![0, o, 0] ![1, W, D] inb x (1 : Fin 3)
  have hl : (x (1 : Fin 3)).val < W := (x (1 : Fin 3)).isLt
  have hj : ((Rect.unit (s := ⟨3, ![1, R, D]⟩) ![0, o, 0] ![1, W, D] inb).emb x (1 : Fin 3)).val = j.val :=
    congrArg (fun z : (⟨3, ![1, R, D]⟩ : Shape).Idx => (z (1 : Fin 3)).val) hx
  omega

/-- Blocks of rows stored from the top. -/
theorem below3 {D : ℕ} (o : ℕ) (inb) (G : Fin R → Fin D → Val e) (w : (Rect.unit (s := ⟨3, ![1, R, D]⟩) ![0, o, 0] ![1, W, D] inb).shape.Idx → Val e)
    (L : List (View.Piece Val ⟨3, ![1, R, D]⟩ e)) (hw : ∀ q d (hq : o + q.val < R), w (ix3 0 q d) = G ⟨o + q.val, hq⟩ d)
    (hL : ∀ (j : Fin R) d, j.val < o → View.canon (Val := Val) (s := ⟨3, ![1, R, D]⟩) (e := e) L (ix3 0 j d) = G j d)
    (n : ℕ) (hn : n = o + W) (j : Fin R) (d : Fin D) (hj : j.val < n) :
    View.canon (Val := Val) (s := ⟨3, ![1, R, D]⟩) (e := e) (⟨Rect.unit (s := ⟨3, ![1, R, D]⟩) ![0, o, 0] ![1, W, D] inb, w⟩ :: L) (ix3 0 j d) = G j d := by
  subst hn
  by_cases h : j.val < o
  · rw [canon_out3 o inb w L j d (.inl h), hL j d h]
  · have hjo : o + (j.val - o) = j.val := by omega
    rw [canon_in3 o inb w L j d ⟨j.val - o, by omega⟩ hjo.symm, hw ⟨j.val - o, by omega⟩ d (hjo.symm ▸ j.isLt)]
    exact congrArg (fun z => G z d) (Fin.ext hjo)

/-- The maximum of `f` over the columns left of `o`, by what lies above it. -/
def IsTop (f : Fin 4096 → EReal) (o : ℕ) (m : EReal) : Prop := ∀ b, m ≤ b ↔ ∀ j : Fin 4096, j.val < o → f j ≤ b

theorem isTop_first (f : Fin 4096 → EReal) : IsTop f 512 (Finset.univ.fold max ⊥ fun q : Fin 512 => f ⟨0 + q.val, by omega⟩) := by
  intro b
  rw [Finset.fold_max_le]
  constructor
  · rintro ⟨-, h⟩ j hj
    have := h ⟨j.val, hj⟩ (Finset.mem_univ _)
    simpa using this
  · intro h
    exact ⟨bot_le, fun q _ => h _ (by simp)⟩

theorem IsTop.step {f : Fin 4096 → EReal} {o : ℕ} {m : EReal} (h : IsTop f o m) (n : ℕ) (hn : n = o + 512) (ho : n ≤ 4096) :
    IsTop f n (max m (Finset.univ.fold max ⊥ fun q : Fin 512 => f ⟨o + q.val, by omega⟩)) := by
  subst hn
  intro b
  rw [max_le_iff, h b, Finset.fold_max_le]
  constructor
  · rintro ⟨h1, -, h2⟩ j hj
    by_cases hjo : j.val < o
    · exact h1 j hjo
    · have := h2 ⟨j.val - o, by omega⟩ (Finset.mem_univ _)
      have e : (⟨o + (j.val - o), by omega⟩ : Fin 4096) = j := Fin.ext (by simp only; omega)
      simp only [e] at this
      exact this
  · intro h
    exact ⟨fun j hj => h j (by omega), bot_le, fun q _ => h _ (by simp only; omega)⟩

/-- Over all the columns it is the row's maximum. -/
theorem IsTop.eq_top {f : Fin 4096 → EReal} {m : EReal} (h : IsTop f 4096 m) : m = Row.top f := by
  refine eq_of_forall_ge_iff fun b => ?_
  rw [h b]
  unfold Row.top
  rw [Finset.fold_max_le]
  exact ⟨fun h => ⟨bot_le, fun j _ => h j j.isLt⟩, fun h j _ => h.2 j (Finset.mem_univ _)⟩

/-- A row's sum taken strip by strip. -/
theorem sum_strips (f : Fin 4096 → EReal) :
    (∑ q : Fin 512, f ⟨0 + q.val, by omega⟩) + (∑ q : Fin 512, f ⟨512 + q.val, by omega⟩) + (∑ q : Fin 512, f ⟨1024 + q.val, by omega⟩)
      + (∑ q : Fin 512, f ⟨1536 + q.val, by omega⟩) + (∑ q : Fin 512, f ⟨2048 + q.val, by omega⟩) + (∑ q : Fin 512, f ⟨2560 + q.val, by omega⟩)
      + (∑ q : Fin 512, f ⟨3072 + q.val, by omega⟩) + (∑ q : Fin 512, f ⟨3584 + q.val, by omega⟩) = ∑ j, f j := by
  rw [Fin.sum_univ_tiles 8 512 rfl f, Fin.sum_univ_eight]
  rfl

end Cert.Strip
-- ==== Proof.Rows.lean ====
/-
One grid point of the kernel's body: the scores of a block of rows, their maximum, the exponentials and their sum, the loss
and the gradient rows, each read at an entry.
-/
module

public import proofs.«01_k».proof.Proof.Words
public import proofs.«01_k».proof.Proof.Strips

@[expose] public section

set_option maxRecDepth 16384

noncomputable section

open Idealize.ShloMosaic Idealize.ShloMosaic.TcCoe Idealize.SL.Sem

namespace Cert.KernelIdeal

open Cert.KernelIdeal Cert.KernelIdeal.Gen

namespace Pt

variable (p : Pt)

/-! ## The scores and their maximum -/

/-- The logit of row `r` of the block against item `j`. -/
def L (r : Fin 512) (j : Fin 4096) : EReal :=
  (∑ x, p.x0 (ix3 0 r x) * p.x2 (ix3 0 j x)) * (p.x1 (ix3 0 0 r) * p.x3 (ix3 0 0 j)) * ((20 : ℝ) : EReal) - p.x4 (ix3 0 0 j)

/-- The same in base two, as the kernel holds it. -/
def X (r : Fin 512) (j : Fin 4096) : EReal := (Row.c2 : EReal) * p.L r j

theorem score_eq (r : Fin 512) (j : Fin 4096) :
    Payload.score (fun x => p.x0 (ix3 0 r x)) (fun x => p.x2 (ix3 0 j x)) (p.x1 (ix3 0 0 r)) (p.x3 (ix3 0 0 j)) (p.x4 (ix3 0 0 j)) = p.X r j :=
  Row.logit_eq _ _ _ _ _ Payload.k20_eq

theorem ldUs_apply (r : Fin 512) : p.ldUs (ix3 0 0 r) = p.x1 (ix3 0 0 r) := by
  unfold ldUs
  rw [View.readAt_eq_ld, p.h3.read_unread]
  pointwise
theorem ldU_apply (r : Fin 512) (d : Fin 256) : p.ldU (ix3 0 r d) = p.x0 (ix3 0 r d) := by
  unfold ldU
  rw [View.readAt_eq_ld, p.h2.read_unread]
  pointwise
theorem r_apply (r : Fin 512) : p.r (ix2 r 0) = p.x1 (ix3 0 0 r) := (Payload.pay14 ..).trans (p.ldUs_apply r)
theorem r_1_apply (r : Fin 512) (d : Fin 256) : p.r_1 (ix2 r d) = p.x0 (ix3 0 r d) := (Payload.pay15 ..).trans (p.ldU_apply r d)
theorem ldV0_apply (q : Fin 512) (d : Fin 256) : p.ldV0 (ix3 0 q d) = p.x2 (ix3 0 ⟨0 + q.val, by omega⟩ d) := by
  unfold ldV0
  rw [View.readAt_eq_ld, p.h4.read_unread]
  exact Strip.ld_rows ..
theorem ldS0_apply (q : Fin 512) : p.ldS0 (ix3 0 0 q) = p.x3 (ix3 0 0 ⟨0 + q.val, by omega⟩) := by
  unfold ldS0
  rw [View.readAt_eq_ld, p.h5.read_unread]
  exact Strip.ld_row ..
theorem ldQ0_apply (q : Fin 512) : p.ldQ0 (ix3 0 0 q) = p.x4 (ix3 0 0 ⟨0 + q.val, by omega⟩) := by
  unfold ldQ0
  rw [View.readAt_eq_ld, p.h6.read_unread]
  exact Strip.ld_row ..
theorem ldV1_apply (q : Fin 512) (d : Fin 256) : p.ldV1 (ix3 0 q d) = p.x2 (ix3 0 ⟨512 + q.val, by omega⟩ d) := by
  unfold ldV1
  rw [View.readAt_eq_ld, p.h4.read_unread]
  exact Strip.ld_rows ..
theorem ldS1_apply (q : Fin 512) : p.ldS1 (ix3 0 0 q) = p.x3 (ix3 0 0 ⟨512 + q.val, by omega⟩) := by
  unfold ldS1
  rw [View.readAt_eq_ld, p.h5.read_unread]
  exact Strip.ld_row ..
theorem ldQ1_apply (q : Fin 512) : p.ldQ1 (ix3 0 0 q) = p.x4 (ix3 0 0 ⟨512 + q.val, by omega⟩) := by
  unfold ldQ1
  rw [View.readAt_eq_ld, p.h6.read_unread]
  exact Strip.ld_row ..
theorem ldV2_apply (q : Fin 512) (d : Fin 256) : p.ldV2 (ix3 0 q d) = p.x2 (ix3 0 ⟨1024 + q.val, by omega⟩ d) := by
  unfold ldV2
  rw [View.readAt_eq_ld, p.h4.read_unread]
  exact Strip.ld_rows ..
theorem ldS2_apply (q : Fin 512) : p.ldS2 (ix3 0 0 q) = p.x3 (ix3 0 0 ⟨1024 + q.val, by omega⟩) := by
  unfold ldS2
  rw [View.readAt_eq_ld, p.h5.read_unread]
  exact Strip.ld_row ..
theorem ldQ2_apply (q : Fin 512) : p.ldQ2 (ix3 0 0 q) = p.x4 (ix3 0 0 ⟨1024 + q.val, by omega⟩) := by
  unfold ldQ2
  rw [View.readAt_eq_ld, p.h6.read_unread]
  exact Strip.ld_row ..
theorem ldV3_apply (q : Fin 512) (d : Fin 256) : p.ldV3 (ix3 0 q d) = p.x2 (ix3 0 ⟨1536 + q.val, by omega⟩ d) := by
  unfold ldV3
  rw [View.readAt_eq_ld, p.h4.read_unread]
  exact Strip.ld_rows ..
theorem ldS3_apply (q : Fin 512) : p.ldS3 (ix3 0 0 q) = p.x3 (ix3 0 0 ⟨1536 + q.val, by omega⟩) := by
  unfold ldS3
  rw [View.readAt_eq_ld, p.h5.read_unread]
  exact Strip.ld_row ..
theorem ldQ3_apply (q : Fin 512) : p.ldQ3 (ix3 0 0 q) = p.x4 (ix3 0 0 ⟨1536 + q.val, by omega⟩) := by
  unfold ldQ3
  rw [View.readAt_eq_ld, p.h6.read_unread]
  exact Strip.ld_row ..
theorem ldV4_apply (q : Fin 512) (d : Fin 256) : p.ldV4 (ix3 0 q d) = p.x2 (ix3 0 ⟨2048 + q.val, by omega⟩ d) := by
  unfold ldV4
  rw [View.readAt_eq_ld, p.h4.read_unread]
  exact Strip.ld_rows ..
theorem ldS4_apply (q : Fin 512) : p.ldS4 (ix3 0 0 q) = p.x3 (ix3 0 0 ⟨2048 + q.val, by omega⟩) := by
  unfold ldS4
  rw [View.readAt_eq_ld, p.h5.read_unread]
  exact Strip.ld_row ..
theorem ldQ4_apply (q : Fin 512) : p.ldQ4 (ix3 0 0 q) = p.x4 (ix3 0 0 ⟨2048 + q.val, by omega⟩) := by
  unfold ldQ4
  rw [View.readAt_eq_ld, p.h6.read_unread]
  exact Strip.ld_row ..
theorem ldV5_apply (q : Fin 512) (d : Fin 256) : p.ldV5 (ix3 0 q d) = p.x2 (ix3 0 ⟨2560 + q.val, by omega⟩ d) := by
  unfold ldV5
  rw [View.readAt_eq_ld, p.h4.read_unread]
  exact Strip.ld_rows ..
theorem ldS5_apply (q : Fin 512) : p.ldS5 (ix3 0 0 q) = p.x3 (ix3 0 0 ⟨2560 + q.val, by omega⟩) := by
  unfold ldS5
  rw [View.readAt_eq_ld, p.h5.read_unread]
  exact Strip.ld_row ..
theorem ldQ5_apply (q : Fin 512) : p.ldQ5 (ix3 0 0 q) = p.x4 (ix3 0 0 ⟨2560 + q.val, by omega⟩) := by
  unfold ldQ5
  rw [View.readAt_eq_ld, p.h6.read_unread]
  exact Strip.ld_row ..
theorem ldV6_apply (q : Fin 512) (d : Fin 256) : p.ldV6 (ix3 0 q d) = p.x2 (ix3 0 ⟨3072 + q.val, by omega⟩ d) := by
  unfold ldV6
  rw [View.readAt_eq_ld, p.h4.read_unread]
  exact Strip.ld_rows ..
theorem ldS6_apply (q : Fin 512) : p.ldS6 (ix3 0 0 q) = p.x3 (ix3 0 0 ⟨3072 + q.val, by omega⟩) := by
  unfold ldS6
  rw [View.readAt_eq_ld, p.h5.read_unread]
  exact Strip.ld_row ..
theorem ldQ6_apply (q : Fin 512) : p.ldQ6 (ix3 0 0 q) = p.x4 (ix3 0 0 ⟨3072 + q.val, by omega⟩) := by
  unfold ldQ6
  rw [View.readAt_eq_ld, p.h6.read_unread]
  exact Strip.ld_row ..
theorem ldV7_apply (q : Fin 512) (d : Fin 256) : p.ldV7 (ix3 0 q d) = p.x2 (ix3 0 ⟨3584 + q.val, by omega⟩ d) := by
  unfold ldV7
  rw [View.readAt_eq_ld, p.h4.read_unread]
  exact Strip.ld_rows ..
theorem ldS7_apply (q : Fin 512) : p.ldS7 (ix3 0 0 q) = p.x3 (ix3 0 0 ⟨3584 + q.val, by omega⟩) := by
  unfold ldS7
  rw [View.readAt_eq_ld, p.h5.read_unread]
  exact Strip.ld_row ..
theorem ldQ7_apply (q : Fin 512) : p.ldQ7 (ix3 0 0 q) = p.x4 (ix3 0 0 ⟨3584 + q.val, by omega⟩) := by
  unfold ldQ7
  rw [View.readAt_eq_ld, p.h6.read_unread]
  exact Strip.ld_row ..

/-! Each strip of scores, as the maximum reads it and as it is stored. -/

theorem m0 (r q : Fin 512) : k0_pay16 (F := Ideal) p.ldUs p.ldU p.ldV0 p.ldS0 p.ldQ0 (ix2 r q) = p.X r ⟨0 + q.val, by omega⟩ := by
  refine (Payload.pay16 ..).trans (Eq.trans ?_ (p.score_eq r _))
  exact Payload.score_congr (fun x => p.ldU_apply r x) (fun x => p.ldV0_apply q x) (p.ldUs_apply r) (p.ldS0_apply q) (p.ldQ0_apply q)
theorem x0' (r q : Fin 512) : k0_pay17 (F := Ideal) p.ldUs p.ldU p.ldV0 p.ldS0 p.ldQ0 (ix2 r q) = p.X r ⟨0 + q.val, by omega⟩ := by
  refine (Payload.pay17 ..).trans (Eq.trans ?_ (p.score_eq r _))
  exact Payload.score_congr (fun x => p.ldU_apply r x) (fun x => p.ldV0_apply q x) (p.ldUs_apply r) (p.ldS0_apply q) (p.ldQ0_apply q)
theorem m1 (r q : Fin 512) : k0_pay19 (F := Ideal) p.r p.r_1 p.ldV1 p.ldS1 p.ldQ1 (ix2 r q) = p.X r ⟨512 + q.val, by omega⟩ := by
  refine (Payload.pay19 ..).trans (Eq.trans ?_ (p.score_eq r _))
  exact Payload.score_congr (fun x => p.r_1_apply r x) (fun x => p.ldV1_apply q x) (p.r_apply r) (p.ldS1_apply q) (p.ldQ1_apply q)
theorem x1' (r q : Fin 512) : k0_pay20 (F := Ideal) p.r p.r_1 p.ldV1 p.ldS1 p.ldQ1 (ix2 r q) = p.X r ⟨512 + q.val, by omega⟩ := by
  refine (Payload.pay20 ..).trans (Eq.trans ?_ (p.score_eq r _))
  exact Payload.score_congr (fun x => p.r_1_apply r x) (fun x => p.ldV1_apply q x) (p.r_apply r) (p.ldS1_apply q) (p.ldQ1_apply q)
theorem m2 (r q : Fin 512) : k0_pay23 (F := Ideal) p.r_4 p.ldQ2 (ix2 r q) = p.X r ⟨1024 + q.val, by omega⟩ := by
  refine (Payload.pay23 ..).trans (Eq.trans ?_ (p.score_eq r _))
  exact Payload.score_congr (fun x => p.r_1_apply r x) (fun x => p.ldV2_apply q x) (p.r_apply r) (p.ldS2_apply q) (p.ldQ2_apply q)
theorem x2' (r q : Fin 512) : k0_pay24 (F := Ideal) p.r_4 p.ldQ2 (ix2 r q) = p.X r ⟨1024 + q.val, by omega⟩ := by
  refine (Payload.pay24 ..).trans (Eq.trans ?_ (p.score_eq r _))
  exact Payload.score_congr (fun x => p.r_1_apply r x) (fun x => p.ldV2_apply q x) (p.r_apply r) (p.ldS2_apply q) (p.ldQ2_apply q)
theorem m3 (r q : Fin 512) : k0_pay25 (F := Ideal) p.r p.r_1 p.ldV3 p.ldS3 p.ldQ3 (ix2 r q) = p.X r ⟨1536 + q.val, by omega⟩ := by
  refine (Payload.pay25 ..).trans (Eq.trans ?_ (p.score_eq r _))
  exact Payload.score_congr (fun x => p.r_1_apply r x) (fun x => p.ldV3_apply q x) (p.r_apply r) (p.ldS3_apply q) (p.ldQ3_apply q)
theorem x3' (r q : Fin 512) : k0_pay26 (F := Ideal) p.r p.r_1 p.ldV3 p.ldS3 p.ldQ3 (ix2 r q) = p.X r ⟨1536 + q.val, by omega⟩ := by
  refine (Payload.pay26 ..).trans (Eq.trans ?_ (p.score_eq r _))
  exact Payload.score_congr (fun x => p.r_1_apply r x) (fun x => p.ldV3_apply q x) (p.r_apply r) (p.ldS3_apply q) (p.ldQ3_apply q)
theorem m4 (r q : Fin 512) : k0_pay28 (F := Ideal) p.r p.r_1 p.ldV4 p.ldS4 p.ldQ4 (ix2 r q) = p.X r ⟨2048 + q.val, by omega⟩ := by
  refine (Payload.pay28 ..).trans (Eq.trans ?_ (p.score_eq r _))
  exact Payload.score_congr (fun x => p.r_1_apply r x) (fun x => p.ldV4_apply q x) (p.r_apply r) (p.ldS4_apply q) (p.ldQ4_apply q)
theorem x4' (r q : Fin 512) : k0_pay29 (F := Ideal) p.r p.r_1 p.ldV4 p.ldS4 p.ldQ4 (ix2 r q) = p.X r ⟨2048 + q.val, by omega⟩ := by
  refine (Payload.pay29 ..).trans (Eq.trans ?_ (p.score_eq r _))
  exact Payload.score_congr (fun x => p.r_1_apply r x) (fun x => p.ldV4_apply q x) (p.r_apply r) (p.ldS4_apply q) (p.ldQ4_apply q)
theorem m5 (r q : Fin 512) : k0_pay33 (F := Ideal) p.r_7 p.r_8 (ix2 r q) = p.X r ⟨2560 + q.val, by omega⟩ := by
  refine (Payload.pay33 ..).trans (Eq.trans ?_ (p.score_eq r _))
  exact Payload.score_congr (fun x => p.r_1_apply r x) (fun x => p.ldV5_apply q x) (p.r_apply r) (p.ldS5_apply q) (p.ldQ5_apply q)
theorem x5 (r q : Fin 512) : k0_pay34 (F := Ideal) p.r_7 p.r_8 (ix2 r q) = p.X r ⟨2560 + q.val, by omega⟩ := by
  refine (Payload.pay34 ..).trans (Eq.trans ?_ (p.score_eq r _))
  exact Payload.score_congr (fun x => p.r_1_apply r x) (fun x => p.ldV5_apply q x) (p.r_apply r) (p.ldS5_apply q) (p.ldQ5_apply q)
theorem m6 (r q : Fin 512) : k0_pay35 (F := Ideal) p.r p.r_1 p.ldV6 p.ldS6 p.ldQ6 (ix2 r q) = p.X r ⟨3072 + q.val, by omega⟩ := by
  refine (Payload.pay35 ..).trans (Eq.trans ?_ (p.score_eq r _))
  exact Payload.score_congr (fun x => p.r_1_apply r x) (fun x => p.ldV6_apply q x) (p.r_apply r) (p.ldS6_apply q) (p.ldQ6_apply q)
theorem x6 (r q : Fin 512) : k0_pay36 (F := Ideal) p.r p.r_1 p.ldV6 p.ldS6 p.ldQ6 (ix2 r q) = p.X r ⟨3072 + q.val, by omega⟩ := by
  refine (Payload.pay36 ..).trans (Eq.trans ?_ (p.score_eq r _))
  exact Payload.score_congr (fun x => p.r_1_apply r x) (fun x => p.ldV6_apply q x) (p.r_apply r) (p.ldS6_apply q) (p.ldQ6_apply q)
theorem m7 (r q : Fin 512) : k0_pay39 (F := Ideal) p.r p.r_1 p.r_10 zeros p.ldS7 p.ldQ7 (ix2 r q) = p.X r ⟨3584 + q.val, by omega⟩ := by
  refine (Payload.pay39 ..).trans (Eq.trans ?_ (p.score_eq r _))
  exact Payload.score_congr (fun x => p.r_1_apply r x) (fun x => p.ldV7_apply q x) (p.r_apply r) (p.ldS7_apply q) (p.ldQ7_apply q)
theorem x7 (r q : Fin 512) : k0_pay40 (F := Ideal) p.r p.r_1 p.r_10 zeros p.ldS7 p.ldQ7 (ix2 r q) = p.X r ⟨3584 + q.val, by omega⟩ := by
  refine (Payload.pay40 ..).trans (Eq.trans ?_ (p.score_eq r _))
  exact Payload.score_congr (fun x => p.r_1_apply r x) (fun x => p.ldV7_apply q x) (p.r_apply r) (p.ldS7_apply q) (p.ldQ7_apply q)

theorem top_2 (r : Fin 512) : Strip.IsTop (p.X r) 512 (p.r_2 (ix2 r 0)) := by
  rw [r_2_eq, Payload.pay18]
  simp only [m0]
  exact Strip.isTop_first _
theorem top_3 (r : Fin 512) : Strip.IsTop (p.X r) 1024 (p.r_3 (ix2 r 0)) := by
  rw [r_3_eq, Payload.pay21]
  simp only [m1]
  exact (p.top_2 r).step 1024 rfl (by norm_num)
theorem top_5 (r : Fin 512) : Strip.IsTop (p.X r) 2048 (p.r_5 (ix2 r 0)) := by
  rw [r_5_eq, Payload.pay27]
  simp only [m2, m3]
  exact ((p.top_3 r).step 1536 rfl (by norm_num)).step 2048 rfl (by norm_num)
theorem top_6 (r : Fin 512) : Strip.IsTop (p.X r) 2560 (p.r_6 (ix2 r 0)) := by
  rw [r_6_eq, Payload.pay30]
  simp only [m4]
  exact (p.top_5 r).step 2560 rfl (by norm_num)
theorem top_9 (r : Fin 512) : Strip.IsTop (p.X r) 3584 (p.r_9 (ix2 r 0)) := by
  rw [r_9_eq, Payload.pay37]
  simp only [m5, m6]
  exact ((p.top_6 r).step 3072 rfl (by norm_num)).step 3584 rfl (by norm_num)
/-- The row's maximum. -/
theorem r_11_apply (r : Fin 512) : p.r_11 (ix2 r 0) = Row.top (p.X r) := by
  refine Strip.IsTop.eq_top ?_
  rw [r_11_eq, Payload.pay41]
  simp only [m7]
  exact (p.top_9 r).step 4096 rfl (by norm_num)

/-- What the score buffer holds once the strips of scores are stored. -/
theorem HS1_8_apply (r : Fin 512) (j : Fin 4096) :
    View.canon (Val := Elt Ideal) (s := S512x4096) (e := .f32) p.HS1_8 (ix2 r j) = p.X r j := by
  rw [HS1_8_eq]
  refine Strip.below (Val := Elt Ideal) (e := .f32) 3584 _ p.X _ _ (fun r q _ => p.x7 r q)
    (Strip.below (Val := Elt Ideal) (e := .f32) 3072 _ p.X _ _ (fun r q _ => p.x6 r q)
    (Strip.below (Val := Elt Ideal) (e := .f32) 2560 _ p.X _ _ (fun r q _ => p.x5 r q)
    (Strip.below (Val := Elt Ideal) (e := .f32) 2048 _ p.X _ _ (fun r q _ => p.x4' r q)
    (Strip.below (Val := Elt Ideal) (e := .f32) 1536 _ p.X _ _ (fun r q _ => p.x3' r q)
    (Strip.below (Val := Elt Ideal) (e := .f32) 1024 _ p.X _ _ (fun r q _ => p.x2' r q)
    (Strip.below (Val := Elt Ideal) (e := .f32) 512 _ p.X _ _ (fun r q _ => p.x1' r q)
    (Strip.below (Val := Elt Ideal) (e := .f32) 0 _ p.X _ _ (fun r q _ => p.x0' r q) ?_ 512 rfl) 1024 rfl) 1536 rfl) 2048 rfl) 2560 rfl) 3072 rfl) 3584 rfl) 4096 rfl r j j.isLt
  intro r j hj
  exact absurd hj (Nat.not_lt_zero _)

/-! ## The exponentials, strip by strip, and their sum -/

/-- The row's exponentials. -/
def E (r : Fin 512) (j : Fin 4096) : EReal := Row.e (p.L r) j

theorem exp2_eq (r : Fin 512) (j : Fin 4096) : Ideal.exp2 (p.X r j - Row.top (p.X r)) = p.E r j :=
  Row.exp2_eq (p.L r) (by norm_num) j

theorem HS1_8_split (r : Fin 512) (j : Fin 4096) :
    View.canon (Val := Elt Ideal) (s := S512x4096) (e := .f32) p.HS1_8 (ix2 r j) = if j.val < 0 then p.E r j else p.X r j :=
  (p.HS1_8_apply r j).trans (if_neg (Nat.not_lt_zero _)).symm

theorem v205_apply (r q : Fin 512) : p.v205 (ix2 r q) = p.X r ⟨0 + q.val, by omega⟩ :=
  (Strip.load (W := 512) p.a11.view ![0, 0] inb_S512x4096_S512x512_0_0 0 rfl rfl p.HS1_8 r q (by omega)).trans
    ((p.HS1_8_split r _).trans (if_neg (by simp only; omega)))
theorem e0 (r q : Fin 512) : k0_pay45 (F := Ideal) p.r p.r_1 p.r_9 p.r_10 zeros p.ldS7 p.ldQ7 p.v205 (ix2 r q) = p.E r ⟨0 + q.val, by omega⟩ := by
  rw [← p.exp2_eq, ← p.r_11_apply, ← p.v205_apply]
  exact Payload.pay45 ..
theorem HS1_9_apply (r : Fin 512) (j : Fin 4096) :
    View.canon (Val := Elt Ideal) (s := S512x4096) (e := .f32) p.HS1_9 (ix2 r j) = if j.val < 512 then p.E r j else p.X r j := by
  rw [HS1_9_eq]
  exact Strip.update (Val := Elt Ideal) (e := .f32) 0 _ p.E p.X _ _ (fun r q _ => p.e0 r q) p.HS1_8_split 512 rfl r j
theorem v214_apply (r q : Fin 512) : p.v214 (ix2 r q) = p.X r ⟨512 + q.val, by omega⟩ :=
  (Strip.load (W := 512) p.a11.view ![0, 512] inb_S512x4096_S512x512_0_512 512 rfl rfl p.HS1_9 r q (by omega)).trans
    ((p.HS1_9_apply r _).trans (if_neg (by simp only; omega)))
theorem e1 (r q : Fin 512) : k0_pay47 (F := Ideal) p.r_11 p.v214 (ix2 r q) = p.E r ⟨512 + q.val, by omega⟩ := by
  rw [Payload.pay47, v214_apply, r_11_apply, exp2_eq]
theorem HS1_10_apply (r : Fin 512) (j : Fin 4096) :
    View.canon (Val := Elt Ideal) (s := S512x4096) (e := .f32) p.HS1_10 (ix2 r j) = if j.val < 1024 then p.E r j else p.X r j := by
  rw [HS1_10_eq]
  exact Strip.update (Val := Elt Ideal) (e := .f32) 512 _ p.E p.X _ _ (fun r q _ => p.e1 r q) p.HS1_9_apply 1024 rfl r j
theorem v224_apply (r q : Fin 512) : p.v224 (ix2 r q) = p.X r ⟨1024 + q.val, by omega⟩ :=
  (Strip.load (W := 512) p.a11.view ![0, 1024] inb_S512x4096_S512x512_0_1024 1024 rfl rfl p.HS1_10 r q (by omega)).trans
    ((p.HS1_10_apply r _).trans (if_neg (by simp only; omega)))
theorem e2 (r q : Fin 512) : k0_pay49 (F := Ideal) p.r_11 p.v224 (ix2 r q) = p.E r ⟨1024 + q.val, by omega⟩ := by
  rw [Payload.pay49, v224_apply, r_11_apply, exp2_eq]
theorem HS1_11_apply (r : Fin 512) (j : Fin 4096) :
    View.canon (Val := Elt Ideal) (s := S512x4096) (e := .f32) p.HS1_11 (ix2 r j) = if j.val < 1536 then p.E r j else p.X r j := by
  rw [HS1_11_eq]
  exact Strip.update (Val := Elt Ideal) (e := .f32) 1024 _ p.E p.X _ _ (fun r q _ => p.e2 r q) p.HS1_10_apply 1536 rfl r j
theorem v234_apply (r q : Fin 512) : p.v234 (ix2 r q) = p.X r ⟨1536 + q.val, by omega⟩ :=
  (Strip.load (W := 512) p.a11.view ![0, 1536] inb_S512x4096_S512x512_0_1536 1536 rfl rfl p.HS1_11 r q (by omega)).trans
    ((p.HS1_11_apply r _).trans (if_neg (by simp only; omega)))
theorem e3 (r q : Fin 512) : k0_pay51 (F := Ideal) p.r_11 p.v234 (ix2 r q) = p.E r ⟨1536 + q.val, by omega⟩ := by
  rw [Payload.pay51, v234_apply, r_11_apply, exp2_eq]
theorem HS1_12_apply (r : Fin 512) (j : Fin 4096) :
    View.canon (Val := Elt Ideal) (s := S512x4096) (e := .f32) p.HS1_12 (ix2 r j) = if j.val < 2048 then p.E r j else p.X r j := by
  rw [HS1_12_eq]
  exact Strip.update (Val := Elt Ideal) (e := .f32) 1536 _ p.E p.X _ _ (fun r q _ => p.e3 r q) p.HS1_11_apply 2048 rfl r j
theorem v244_apply (r q : Fin 512) : p.v244 (ix2 r q) = p.X r ⟨2048 + q.val, by omega⟩ :=
  (Strip.load (W := 512) p.a11.view ![0, 2048] inb_S512x4096_S512x512_0_2048 2048 rfl rfl p.HS1_12 r q (by omega)).trans
    ((p.HS1_12_apply r _).trans (if_neg (by simp only; omega)))
theorem r_15_apply (r q : Fin 512) : p.r_15 (ix2 r q) = p.E r ⟨2048 + q.val, by omega⟩ := by
  rw [r_15_eq, Payload.pay53, v244_apply, r_11_apply, exp2_eq]
theorem e4 (r q : Fin 512) : k0_pay54 (F := Ideal) p.r_15 (ix2 r q) = p.E r ⟨2048 + q.val, by omega⟩ := by
  exact (Payload.pay54 ..).trans (p.r_15_apply r q)
theorem HS1_13_apply (r : Fin 512) (j : Fin 4096) :
    View.canon (Val := Elt Ideal) (s := S512x4096) (e := .f32) p.HS1_13 (ix2 r j) = if j.val < 2560 then p.E r j else p.X r j := by
  rw [HS1_13_eq]
  exact Strip.update (Val := Elt Ideal) (e := .f32) 2048 _ p.E p.X _ _ (fun r q _ => p.e4 r q) p.HS1_12_apply 2560 rfl r j
theorem v254_apply (r q : Fin 512) : p.v254 (ix2 r q) = p.X r ⟨2560 + q.val, by omega⟩ :=
  (Strip.load (W := 512) p.a11.view ![0, 2560] inb_S512x4096_S512x512_0_2560 2560 rfl rfl p.HS1_13 r q (by omega)).trans
    ((p.HS1_13_apply r _).trans (if_neg (by simp only; omega)))
theorem e5 (r q : Fin 512) : k0_pay56 (F := Ideal) p.r_11 p.v254 (ix2 r q) = p.E r ⟨2560 + q.val, by omega⟩ := by
  rw [Payload.pay56, v254_apply, r_11_apply, exp2_eq]
theorem HS1_14_apply (r : Fin 512) (j : Fin 4096) :
    View.canon (Val := Elt Ideal) (s := S512x4096) (e := .f32) p.HS1_14 (ix2 r j) = if j.val < 3072 then p.E r j else p.X r j := by
  rw [HS1_14_eq]
  exact Strip.update (Val := Elt Ideal) (e := .f32) 2560 _ p.E p.X _ _ (fun r q _ => p.e5 r q) p.HS1_13_apply 3072 rfl r j
theorem v264_apply (r q : Fin 512) : p.v264 (ix2 r q) = p.X r ⟨3072 + q.val, by omega⟩ :=
  (Strip.load (W := 512) p.a11.view ![0, 3072] inb_S512x4096_S512x512_0_3072 3072 rfl rfl p.HS1_14 r q (by omega)).trans
    ((p.HS1_14_apply r _).trans (if_neg (by simp only; omega)))
theorem e6 (r q : Fin 512) : k0_pay58 (F := Ideal) p.r_11 p.v264 (ix2 r q) = p.E r ⟨3072 + q.val, by omega⟩ := by
  rw [Payload.pay58, v264_apply, r_11_apply, exp2_eq]
theorem HS1_15_apply (r : Fin 512) (j : Fin 4096) :
    View.canon (Val := Elt Ideal) (s := S512x4096) (e := .f32) p.HS1_15 (ix2 r j) = if j.val < 3584 then p.E r j else p.X r j := by
  rw [HS1_15_eq]
  exact Strip.update (Val := Elt Ideal) (e := .f32) 3072 _ p.E p.X _ _ (fun r q _ => p.e6 r q) p.HS1_14_apply 3584 rfl r j
theorem v274_apply (r q : Fin 512) : p.v274 (ix2 r q) = p.X r ⟨3584 + q.val, by omega⟩ :=
  (Strip.load (W := 512) p.a11.view ![0, 3584] inb_S512x4096_S512x512_0_3584 3584 rfl rfl p.HS1_15 r q (by omega)).trans
    ((p.HS1_15_apply r _).trans (if_neg (by simp only; omega)))
theorem e7 (r q : Fin 512) : k0_pay60 (F := Ideal) p.r_11 p.v274 (ix2 r q) = p.E r ⟨3584 + q.val, by omega⟩ := by
  rw [Payload.pay60, v274_apply, r_11_apply, exp2_eq]
theorem HS1_16_apply (r : Fin 512) (j : Fin 4096) :
    View.canon (Val := Elt Ideal) (s := S512x4096) (e := .f32) p.HS1_16 (ix2 r j) = if j.val < 4096 then p.E r j else p.X r j := by
  rw [HS1_16_eq]
  exact Strip.update (Val := Elt Ideal) (e := .f32) 3584 _ p.E p.X _ _ (fun r q _ => p.e7 r q) p.HS1_15_apply 4096 rfl r j

theorem HS1_16_full (r : Fin 512) (j : Fin 4096) :
    View.canon (Val := Elt Ideal) (s := S512x4096) (e := .f32) p.HS1_16 (ix2 r j) = p.E r j :=
  (p.HS1_16_apply r j).trans (if_pos j.isLt)

theorem r_13_apply (r q : Fin 512) : p.r_13 (ix2 r q) = p.E r ⟨0 + q.val, by omega⟩ := by
  rw [← p.exp2_eq, ← p.r_11_apply, ← p.v205_apply]
  exact Payload.pay44 ..

theorem r_16_apply (r : Fin 512) : p.r_16 (ix2 r 0) = (Row.c2 : EReal) * Row.top (p.L r) * ((Real.log 2 : ℝ) : EReal) := by
  rw [r_16_eq, Payload.pay61, r_11_apply]
  exact congrArg (· * _) (Row.top_mul (p.L r) (by norm_num))

theorem r_17_apply (r : Fin 512) :
    p.r_17 (ix2 r 0) = (Row.c2 : EReal) * Row.top (p.L r) * ((Real.log 2 : ℝ) : EReal) + Ideal.log (Row.tot (p.L r)) := by
  rw [r_17_eq, Payload.pay62, ← p.r_16_eq, r_16_apply, r_14_eq, Payload.pay52]
  simp only [Payload.pay46, Payload.pay48, Payload.pay50, Payload.pay55, Payload.pay57, Payload.pay59, r_11_apply, v214_apply, v224_apply, v234_apply,
    v254_apply, v264_apply, v274_apply, r_13_apply, r_15_apply, exp2_eq]
  rw [Strip.sum_strips (p.E r)]
  rfl

theorem dd_apply (r : Fin 512) : p.r_17 (ix2 r 0) - p.r_16 (ix2 r 0) = Row.dd (p.L r) := by
  rw [r_17_apply, r_16_apply]; rfl

/-! ## The row's own item -/

theorem off1 : k0_off1 p.i = ![0, 512 * (p.i 1).val] := by
  have h : (p.i 1).val < 8 := (p.i 1).isLt
  have e : (BitVec.ofNat 32 (p.i 1).val * 512#32).toNat = 512 * (p.i 1).val := by
    rw [BitVec.toNat_mul, BitVec.toNat_ofNat]
    simp only [BitVec.toNat_ofNat]
    omega
  exact congrArg (fun z => ![0, z]) e

/-- The item row `r` of the block is paired with. -/
def own (r : Fin 512) : Fin 4096 := ⟨512 * (p.i 1).val + r.val, by have h : (p.i 1).val < 8 := (p.i 1).isLt; omega⟩

theorem own_lt (q : Fin 512) : 512 * (p.i 1).val + q.val < 4096 := by have h : (p.i 1).val < 8 := (p.i 1).isLt; omega

theorem v200_apply (r q : Fin 512) : p.v200 (ix2 r q) = p.X r ⟨512 * (p.i 1).val + q.val, p.own_lt q⟩ :=
  (Strip.load (W := 512) p.a11.view (k0_off1 p.i) (k0_off1_inb p.i) (512 * (p.i 1).val) (by rw [off1]; rfl) (by rw [off1]; rfl) p.HS1_8 r q (p.own_lt q)).trans
    (p.HS1_8_apply r _)

theorem v302_apply (r q : Fin 512) : p.v302 (ix2 r q) = p.E r ⟨512 * (p.i 1).val + q.val, p.own_lt q⟩ :=
  (Strip.load (W := 512) p.a11.view (k0_off1 p.i) (k0_off1_inb p.i) (512 * (p.i 1).val) (by rw [off1]; rfl) (by rw [off1]; rfl) p.HS1_16 r q (p.own_lt q)).trans
    (p.HS1_16_full r _)

theorem r_12_apply (r : Fin 512) : p.r_12 (ix2 r 0) = p.X r (p.own r) := by
  rw [r_12_eq, Payload.pay43, v200_apply]; rfl

/-- The loss of the row. -/
theorem loss_apply (r : Fin 512) :
    k0_pay64 (F := Ideal) p.r_11 p.r_12 p.r_16 p.r_17 (ix3 0 0 r) = Row.lse (p.L r) - p.L r (p.own r) := by
  rw [Payload.pay64, r_11_apply, r_12_apply, dd_apply]
  refine Eq.trans ?_ (Row.loss_eq (p.L r) (by norm_num) (p.own r))
  exact congrArg (fun z => (z - _) * _ + _) (Row.top_mul (p.L r) (by norm_num))

/-! ## The gradient rows -/

/-- The exponentials with the row's own entry lowered by the sum. -/
def D (r : Fin 512) (j : Fin 4096) : EReal := if p.own r = j then p.E r j - Ideal.exp (Row.dd (p.L r)) else p.E r j

theorem HS1_17_apply (r : Fin 512) (j : Fin 4096) :
    View.canon (Val := Elt Ideal) (s := S512x4096) (e := .f32) p.HS1_17 (ix2 r j) = p.D r j := by
  have hi : (p.i 1).val < 8 := (p.i 1).isLt
  have h1 : k0_off1 p.i 1 = 512 * (p.i 1).val := by rw [off1]; rfl
  rw [HS1_17_eq]
  by_cases h : j.val < 512 * (p.i 1).val ∨ 512 * (p.i 1).val + 512 ≤ j.val
  · refine (Strip.canon_out (W := 512) (k0_off1 p.i) _ _ h1 _ _ r j h).trans ((p.HS1_16_full r j).trans ?_)
    refine (if_neg ?_).symm
    intro e
    have := congrArg Fin.val e
    simp only [own] at this
    omega
  · refine (Strip.canon_in (W := 512) (k0_off1 p.i) _ _ (by rw [off1]; rfl) h1 _ _ r j ⟨j.val - 512 * (p.i 1).val, by omega⟩ (by simp only; omega)).trans ?_
    rw [Payload.pay66, v302_apply, dd_apply]
    have ej : (⟨512 * (p.i 1).val + (j.val - 512 * (p.i 1).val), by omega⟩ : Fin 4096) = j := Fin.ext (by simp only; omega)
    simp only [ej]
    unfold D
    have hiff : (r = ⟨j.val - 512 * (p.i 1).val, by omega⟩) ↔ (p.own r = j) := by
      constructor
      · intro e
        have := congrArg Fin.val e
        simp only at this
        exact Fin.ext (by simp only [own]; omega)
      · intro e
        have := congrArg Fin.val e
        simp only [own] at this
        exact Fin.ext (by simp only; omega)
    simp only [hiff]

/-- The gradient of row `r`'s loss by its logit against item `j`. -/
def G (r : Fin 512) (j : Fin 4096) : EReal := Row.grad (p.L r) (p.own r) j

theorem D_mul (r : Fin 512) (j : Fin 4096) : p.D r j * Ideal.div 1 (Ideal.exp (Row.dd (p.L r))) = p.G r j :=
  Row.grad_eq (p.L r) (by norm_num) (p.own r) j

theorem r_18_apply (r : Fin 512) : p.r_18 (ix2 r 0) = Ideal.div 1 (Ideal.exp (Row.dd (p.L r))) := by
  rw [r_18_eq, Payload.pay67, dd_apply]

theorem v314_apply (r q : Fin 512) : p.v314 (ix2 r q) = p.D r ⟨0 + q.val, by omega⟩ :=
  (Strip.load (W := 512) p.a11.view ![0, 0] inb_S512x4096_S512x512_0_0 0 rfl rfl p.HS1_17 r q (by omega)).trans (p.HS1_17_apply r _)
theorem g0 (r q : Fin 512) : k0_pay68 (F := Ideal) p.r_16 p.r_17 p.v314 (ix2 r q) = p.G r ⟨0 + q.val, by omega⟩ := by
  rw [Payload.pay68, v314_apply, ← p.r_18_eq, r_18_apply, D_mul]
theorem v321_apply (r q : Fin 512) : p.v321 (ix2 r q) = p.D r ⟨512 + q.val, by omega⟩ :=
  (Strip.load (W := 512) p.a11.view ![0, 512] inb_S512x4096_S512x512_0_512 512 rfl rfl p.HS1_17 r q (by omega)).trans (p.HS1_17_apply r _)
theorem g1 (r q : Fin 512) : k0_pay69 (F := Ideal) p.r_16 p.r_17 p.v321 (ix2 r q) = p.G r ⟨512 + q.val, by omega⟩ := by
  rw [Payload.pay69, v321_apply, ← p.r_18_eq, r_18_apply, D_mul]
theorem v328_apply (r q : Fin 512) : p.v328 (ix2 r q) = p.D r ⟨1024 + q.val, by omega⟩ :=
  (Strip.load (W := 512) p.a11.view ![0, 1024] inb_S512x4096_S512x512_0_1024 1024 rfl rfl p.HS1_17 r q (by omega)).trans (p.HS1_17_apply r _)
theorem g2 (r q : Fin 512) : k0_pay70 (F := Ideal) p.r_18 p.v328 (ix2 r q) = p.G r ⟨1024 + q.val, by omega⟩ := by
  rw [Payload.pay70, v328_apply, r_18_apply, D_mul]
theorem v335_apply (r q : Fin 512) : p.v335 (ix2 r q) = p.D r ⟨1536 + q.val, by omega⟩ :=
  (Strip.load (W := 512) p.a11.view ![0, 1536] inb_S512x4096_S512x512_0_1536 1536 rfl rfl p.HS1_17 r q (by omega)).trans (p.HS1_17_apply r _)
theorem g3 (r q : Fin 512) : k0_pay71 (F := Ideal) p.r_18 p.v335 (ix2 r q) = p.G r ⟨1536 + q.val, by omega⟩ := by
  rw [Payload.pay71, v335_apply, r_18_apply, D_mul]
theorem v342_apply (r q : Fin 512) : p.v342 (ix2 r q) = p.D r ⟨2048 + q.val, by omega⟩ :=
  (Strip.load (W := 512) p.a11.view ![0, 2048] inb_S512x4096_S512x512_0_2048 2048 rfl rfl p.HS1_17 r q (by omega)).trans (p.HS1_17_apply r _)
theorem g4 (r q : Fin 512) : k0_pay72 (F := Ideal) p.r_18 p.v342 (ix2 r q) = p.G r ⟨2048 + q.val, by omega⟩ := by
  rw [Payload.pay72, v342_apply, r_18_apply, D_mul]
theorem v349_apply (r q : Fin 512) : p.v349 (ix2 r q) = p.D r ⟨2560 + q.val, by omega⟩ :=
  (Strip.load (W := 512) p.a11.view ![0, 2560] inb_S512x4096_S512x512_0_2560 2560 rfl rfl p.HS1_17 r q (by omega)).trans (p.HS1_17_apply r _)
theorem g5 (r q : Fin 512) : k0_pay73 (F := Ideal) p.r_18 p.v349 (ix2 r q) = p.G r ⟨2560 + q.val, by omega⟩ := by
  rw [Payload.pay73, v349_apply, r_18_apply, D_mul]
theorem v356_apply (r q : Fin 512) : p.v356 (ix2 r q) = p.D r ⟨3072 + q.val, by omega⟩ :=
  (Strip.load (W := 512) p.a11.view ![0, 3072] inb_S512x4096_S512x512_0_3072 3072 rfl rfl p.HS1_17 r q (by omega)).trans (p.HS1_17_apply r _)
theorem g6 (r q : Fin 512) : k0_pay74 (F := Ideal) p.r_18 p.v356 (ix2 r q) = p.G r ⟨3072 + q.val, by omega⟩ := by
  rw [Payload.pay74, v356_apply, r_18_apply, D_mul]
theorem v363_apply (r q : Fin 512) : p.v363 (ix2 r q) = p.D r ⟨3584 + q.val, by omega⟩ :=
  (Strip.load (W := 512) p.a11.view ![0, 3584] inb_S512x4096_S512x512_0_3584 3584 rfl rfl p.HS1_17 r q (by omega)).trans (p.HS1_17_apply r _)
theorem g7 (r q : Fin 512) : k0_pay75 (F := Ideal) p.r_18 p.v363 (ix2 r q) = p.G r ⟨3584 + q.val, by omega⟩ := by
  rw [Payload.pay75, v363_apply, r_18_apply, D_mul]

/-- What the gradient buffer holds. -/
theorem HS2_8_apply (r : Fin 512) (j : Fin 4096) :
    View.canon (Val := Elt Ideal) (s := S512x4096) (e := .bf16) p.HS2_8 (ix2 r j) = p.G r j := by
  rw [HS2_8_eq]
  refine Strip.below (Val := Elt Ideal) (e := .bf16) 3584 _ p.G _ _ (fun r q _ => p.g7 r q)
    (Strip.below (Val := Elt Ideal) (e := .bf16) 3072 _ p.G _ _ (fun r q _ => p.g6 r q)
    (Strip.below (Val := Elt Ideal) (e := .bf16) 2560 _ p.G _ _ (fun r q _ => p.g5 r q)
    (Strip.below (Val := Elt Ideal) (e := .bf16) 2048 _ p.G _ _ (fun r q _ => p.g4 r q)
    (Strip.below (Val := Elt Ideal) (e := .bf16) 1536 _ p.G _ _ (fun r q _ => p.g3 r q)
    (Strip.below (Val := Elt Ideal) (e := .bf16) 1024 _ p.G _ _ (fun r q _ => p.g2 r q)
    (Strip.below (Val := Elt Ideal) (e := .bf16) 512 _ p.G _ _ (fun r q _ => p.g1 r q)
    (Strip.below (Val := Elt Ideal) (e := .bf16) 0 _ p.G _ _ (fun r q _ => p.g0 r q) ?_ 512 rfl) 1024 rfl) 1536 rfl) 2048 rfl) 2560 rfl) 3072 rfl) 3584 rfl) 4096 rfl r j j.isLt
  intro r j hj
  exact absurd hj (Nat.not_lt_zero _)

theorem v370_apply (r : Fin 512) (j : Fin 4096) : p.v370 (ix2 r j) = p.G r j :=
  (Strip.load (W := 4096) p.a12.view ![0, 0] inb_S512x4096_S512x4096_0_0 0 rfl rfl p.HS2_8 r j (by omega)).trans
    ((p.HS2_8_apply r _).trans (congrArg (p.G r) (Fin.ext (Nat.zero_add _))))
theorem v385_apply (r q : Fin 512) : p.v385 (ix2 r q) = p.G r ⟨0 + q.val, by omega⟩ :=
  (Strip.load (W := 512) p.a12.view ![0, 0] inb_S512x4096_S512x512_0_0 0 rfl rfl p.HS2_8 r q (by omega)).trans (p.HS2_8_apply r _)
theorem v392_apply (r q : Fin 512) : p.v392 (ix2 r q) = p.G r ⟨512 + q.val, by omega⟩ :=
  (Strip.load (W := 512) p.a12.view ![0, 512] inb_S512x4096_S512x512_0_512 512 rfl rfl p.HS2_8 r q (by omega)).trans (p.HS2_8_apply r _)
theorem v399_apply (r q : Fin 512) : p.v399 (ix2 r q) = p.G r ⟨1024 + q.val, by omega⟩ :=
  (Strip.load (W := 512) p.a12.view ![0, 1024] inb_S512x4096_S512x512_0_1024 1024 rfl rfl p.HS2_8 r q (by omega)).trans (p.HS2_8_apply r _)
theorem v406_apply (r q : Fin 512) : p.v406 (ix2 r q) = p.G r ⟨1536 + q.val, by omega⟩ :=
  (Strip.load (W := 512) p.a12.view ![0, 1536] inb_S512x4096_S512x512_0_1536 1536 rfl rfl p.HS2_8 r q (by omega)).trans (p.HS2_8_apply r _)
theorem v413_apply (r q : Fin 512) : p.v413 (ix2 r q) = p.G r ⟨2048 + q.val, by omega⟩ :=
  (Strip.load (W := 512) p.a12.view ![0, 2048] inb_S512x4096_S512x512_0_2048 2048 rfl rfl p.HS2_8 r q (by omega)).trans (p.HS2_8_apply r _)
theorem v420_apply (r q : Fin 512) : p.v420 (ix2 r q) = p.G r ⟨2560 + q.val, by omega⟩ :=
  (Strip.load (W := 512) p.a12.view ![0, 2560] inb_S512x4096_S512x512_0_2560 2560 rfl rfl p.HS2_8 r q (by omega)).trans (p.HS2_8_apply r _)
theorem v427_apply (r q : Fin 512) : p.v427 (ix2 r q) = p.G r ⟨3072 + q.val, by omega⟩ :=
  (Strip.load (W := 512) p.a12.view ![0, 3072] inb_S512x4096_S512x512_0_3072 3072 rfl rfl p.HS2_8 r q (by omega)).trans (p.HS2_8_apply r _)
theorem v434_apply (r q : Fin 512) : p.v434 (ix2 r q) = p.G r ⟨3584 + q.val, by omega⟩ :=
  (Strip.load (W := 512) p.a12.view ![0, 3584] inb_S512x4096_S512x512_0_3584 3584 rfl rfl p.HS2_8 r q (by omega)).trans (p.HS2_8_apply r _)

/-- The block's scaled rows, transposed. -/
theorem r_19_apply (d : Fin 256) (r : Fin 512) : p.r_19 (ix2 d r) = p.x0 (ix3 0 r d) * p.x1 (ix3 0 0 r) := by
  rw [r_19_eq, Payload.pay77, r_apply, r_1_apply]

end Pt

end Cert.KernelIdeal
-- ==== Proof.Cases.lean ====
/-
What one grid point leaves in the outputs and in the carried buffers (the scaled item rows, and the running product that
becomes the item gradient), for the first (`A`), a middle (`B`) and the last (`C`) row block of a group.
-/
module

public import proofs.«01_k».proof.Proof.Rows

@[expose] public section

set_option maxRecDepth 16384

noncomputable section

open Idealize.ShloMosaic Idealize.ShloMosaic.TcCoe Idealize.SL.Sem

namespace Cert.KernelIdeal

open Cert.KernelIdeal Cert.KernelIdeal.Gen

/-- The rest of a point's buffers. -/
structure Full extends Pt where
  a7 : Memref sig .tc .vmem S1x1x512 .f32
  h7 : a7.IsWhole
  a8 : Memref sig .tc .vmem S1x512x256 .bf16
  h8 : a8.IsWhole
  a9 : Memref sig .tc .vmem S1x4096x256 .bf16
  h9 : a9.IsWhole
  a10 : Memref sig .tc .vmem S4096x256 .bf16
  h10 : a10.IsWhole
  h11 : a11.IsWhole
  h12 : a12.IsWhole
  a13 : Memref sig .tc .vmem S256x4096 .f32
  h13 : a13.IsWhole

namespace Pt

variable (p : Pt)

/-- What the point adds to the running product. -/
def inc (d : Fin 256) (j : Fin 4096) : EReal := ∑ r, p.x0 (ix3 0 r d) * p.x1 (ix3 0 0 r) * p.G r j

theorem s0 (acc : FVec Ideal S256x512 .f32) (d : Fin 256) (q : Fin 512) :
    k0_pay78 (F := Ideal) p.r p.r_1 acc p.v385 (ix2 d q) = acc (ix2 d q) + p.inc d ⟨0 + q.val, by omega⟩ :=
  (Payload.pay78 ..).trans (congrArg (acc (ix2 d q) + ·) (Finset.sum_congr rfl fun r _ => congrArg₂ (· * ·) (p.r_19_apply d r) (p.v385_apply r q)))
theorem s1 (acc : FVec Ideal S256x512 .f32) (d : Fin 256) (q : Fin 512) :
    k0_pay80 (F := Ideal) (k0_pay79 (F := Ideal) p.r p.r_1 acc p.v392) (ix2 d q) = acc (ix2 d q) + p.inc d ⟨512 + q.val, by omega⟩ :=
  ((Payload.pay80 ..).trans (Payload.pay79 ..)).trans (congrArg (acc (ix2 d q) + ·) (Finset.sum_congr rfl fun r _ => congrArg₂ (· * ·) (p.r_19_apply d r) (p.v392_apply r q)))
theorem s2 (acc : FVec Ideal S256x512 .f32) (d : Fin 256) (q : Fin 512) :
    k0_pay81 (F := Ideal) p.r_19 acc p.v399 (ix2 d q) = acc (ix2 d q) + p.inc d ⟨1024 + q.val, by omega⟩ :=
  (Payload.pay81 ..).trans (congrArg (acc (ix2 d q) + ·) (Finset.sum_congr rfl fun r _ => congrArg₂ (· * ·) (p.r_19_apply d r) (p.v399_apply r q)))
theorem s3 (acc : FVec Ideal S256x512 .f32) (d : Fin 256) (q : Fin 512) :
    k0_pay82 (F := Ideal) p.r_19 acc p.v406 (ix2 d q) = acc (ix2 d q) + p.inc d ⟨1536 + q.val, by omega⟩ :=
  (Payload.pay82 ..).trans (congrArg (acc (ix2 d q) + ·) (Finset.sum_congr rfl fun r _ => congrArg₂ (· * ·) (p.r_19_apply d r) (p.v406_apply r q)))
theorem s4 (acc : FVec Ideal S256x512 .f32) (d : Fin 256) (q : Fin 512) :
    k0_pay83 (F := Ideal) p.r_19 acc p.v413 (ix2 d q) = acc (ix2 d q) + p.inc d ⟨2048 + q.val, by omega⟩ :=
  (Payload.pay83 ..).trans (congrArg (acc (ix2 d q) + ·) (Finset.sum_congr rfl fun r _ => congrArg₂ (· * ·) (p.r_19_apply d r) (p.v413_apply r q)))
theorem s5 (acc : FVec Ideal S256x512 .f32) (d : Fin 256) (q : Fin 512) :
    k0_pay1 (F := Ideal) (k0_pay84 (F := Ideal) p.r_19 acc p.v420) (ix2 d q) = acc (ix2 d q) + p.inc d ⟨2560 + q.val, by omega⟩ :=
  ((Payload.pay1 ..).trans (Payload.pay84 ..)).trans (congrArg (acc (ix2 d q) + ·) (Finset.sum_congr rfl fun r _ => congrArg₂ (· * ·) (p.r_19_apply d r) (p.v420_apply r q)))
theorem s6 (acc : FVec Ideal S256x512 .f32) (d : Fin 256) (q : Fin 512) :
    k0_pay2 (F := Ideal) p.r_19 acc p.v427 (ix2 d q) = acc (ix2 d q) + p.inc d ⟨3072 + q.val, by omega⟩ :=
  (Payload.pay2 ..).trans (congrArg (acc (ix2 d q) + ·) (Finset.sum_congr rfl fun r _ => congrArg₂ (· * ·) (p.r_19_apply d r) (p.v427_apply r q)))
theorem s7 (acc : FVec Ideal S256x512 .f32) (d : Fin 256) (q : Fin 512) :
    k0_pay3 (F := Ideal) p.r_19 acc p.v434 (ix2 d q) = acc (ix2 d q) + p.inc d ⟨3584 + q.val, by omega⟩ :=
  (Payload.pay3 ..).trans (congrArg (acc (ix2 d q) + ·) (Finset.sum_congr rfl fun r _ => congrArg₂ (· * ·) (p.r_19_apply d r) (p.v434_apply r q)))

end Pt

namespace Full

variable (f : Full)

/-! ## The running product at a middle or last point -/

abbrev ldA0 (xs3 : Vec Ideal S256x4096 .f32) := View.readAt (Elt Ideal) f.a13.view (Rect.unit (s := S256x4096) ![0, 0] S256x512.size inb_S256x4096_S256x512_0_0).toLoadRect (f.h13.unread xs3)
theorem ldA0_apply (xs3 : Vec Ideal S256x4096 .f32) (d : Fin 256) (q : Fin 512) : f.ldA0 xs3 (ix2 d q) = xs3 (ix2 d ⟨0 + q.val, by omega⟩) := by
  unfold ldA0
  rw [View.readAt_eq_ld, f.h13.read_unread]
  exact Strip.ld ..
abbrev ldA1 (xs3 : Vec Ideal S256x4096 .f32) := View.readAt (Elt Ideal) f.a13.view (Rect.unit (s := S256x4096) ![0, 512] S256x512.size inb_S256x4096_S256x512_0_512).toLoadRect (f.h13.unread xs3)
theorem ldA1_apply (xs3 : Vec Ideal S256x4096 .f32) (d : Fin 256) (q : Fin 512) : f.ldA1 xs3 (ix2 d q) = xs3 (ix2 d ⟨512 + q.val, by omega⟩) := by
  unfold ldA1
  rw [View.readAt_eq_ld, f.h13.read_unread]
  exact Strip.ld ..
abbrev ldA2 (xs3 : Vec Ideal S256x4096 .f32) := View.readAt (Elt Ideal) f.a13.view (Rect.unit (s := S256x4096) ![0, 1024] S256x512.size inb_S256x4096_S256x512_0_1024).toLoadRect (f.h13.unread xs3)
theorem ldA2_apply (xs3 : Vec Ideal S256x4096 .f32) (d : Fin 256) (q : Fin 512) : f.ldA2 xs3 (ix2 d q) = xs3 (ix2 d ⟨1024 + q.val, by omega⟩) := by
  unfold ldA2
  rw [View.readAt_eq_ld, f.h13.read_unread]
  exact Strip.ld ..
abbrev ldA3 (xs3 : Vec Ideal S256x4096 .f32) := View.readAt (Elt Ideal) f.a13.view (Rect.unit (s := S256x4096) ![0, 1536] S256x512.size inb_S256x4096_S256x512_0_1536).toLoadRect (f.h13.unread xs3)
theorem ldA3_apply (xs3 : Vec Ideal S256x4096 .f32) (d : Fin 256) (q : Fin 512) : f.ldA3 xs3 (ix2 d q) = xs3 (ix2 d ⟨1536 + q.val, by omega⟩) := by
  unfold ldA3
  rw [View.readAt_eq_ld, f.h13.read_unread]
  exact Strip.ld ..
abbrev ldA4 (xs3 : Vec Ideal S256x4096 .f32) := View.readAt (Elt Ideal) f.a13.view (Rect.unit (s := S256x4096) ![0, 2048] S256x512.size inb_S256x4096_S256x512_0_2048).toLoadRect (f.h13.unread xs3)
theorem ldA4_apply (xs3 : Vec Ideal S256x4096 .f32) (d : Fin 256) (q : Fin 512) : f.ldA4 xs3 (ix2 d q) = xs3 (ix2 d ⟨2048 + q.val, by omega⟩) := by
  unfold ldA4
  rw [View.readAt_eq_ld, f.h13.read_unread]
  exact Strip.ld ..
abbrev ldA5 (xs3 : Vec Ideal S256x4096 .f32) := View.readAt (Elt Ideal) f.a13.view (Rect.unit (s := S256x4096) ![0, 2560] S256x512.size inb_S256x4096_S256x512_0_2560).toLoadRect (f.h13.unread xs3)
theorem ldA5_apply (xs3 : Vec Ideal S256x4096 .f32) (d : Fin 256) (q : Fin 512) : f.ldA5 xs3 (ix2 d q) = xs3 (ix2 d ⟨2560 + q.val, by omega⟩) := by
  unfold ldA5
  rw [View.readAt_eq_ld, f.h13.read_unread]
  exact Strip.ld ..
abbrev ldA6 (xs3 : Vec Ideal S256x4096 .f32) := View.readAt (Elt Ideal) f.a13.view (Rect.unit (s := S256x4096) ![0, 3072] S256x512.size inb_S256x4096_S256x512_0_3072).toLoadRect (f.h13.unread xs3)
theorem ldA6_apply (xs3 : Vec Ideal S256x4096 .f32) (d : Fin 256) (q : Fin 512) : f.ldA6 xs3 (ix2 d q) = xs3 (ix2 d ⟨3072 + q.val, by omega⟩) := by
  unfold ldA6
  rw [View.readAt_eq_ld, f.h13.read_unread]
  exact Strip.ld ..
abbrev ldA7 (xs3 : Vec Ideal S256x4096 .f32) := View.readAt (Elt Ideal) f.a13.view (Rect.unit (s := S256x4096) ![0, 3584] S256x512.size inb_S256x4096_S256x512_0_3584).toLoadRect (f.h13.unread xs3)
theorem ldA7_apply (xs3 : Vec Ideal S256x4096 .f32) (d : Fin 256) (q : Fin 512) : f.ldA7 xs3 (ix2 d q) = xs3 (ix2 d ⟨3584 + q.val, by omega⟩) := by
  unfold ldA7
  rw [View.readAt_eq_ld, f.h13.read_unread]
  exact Strip.ld ..

/-- The strips stored into the running product. -/
abbrev accL (xs3 : Vec Ideal S256x4096 .f32) : List (View.Piece (Elt Ideal) S256x4096 .f32) := [⟨Rect.unit (s := S256x4096) ![0, 3584] S256x512.size inb_S256x4096_S256x512_0_3584, k0_pay3 (F := Ideal) f.toPt.r_19 (f.ldA7 xs3) f.toPt.v434⟩,
    ⟨Rect.unit (s := S256x4096) ![0, 3072] S256x512.size inb_S256x4096_S256x512_0_3072, k0_pay2 (F := Ideal) f.toPt.r_19 (f.ldA6 xs3) f.toPt.v427⟩,
    ⟨Rect.unit (s := S256x4096) ![0, 2560] S256x512.size inb_S256x4096_S256x512_0_2560, k0_pay1 (F := Ideal) (k0_pay84 (F := Ideal) f.toPt.r_19 (f.ldA5 xs3) f.toPt.v420)⟩,
    ⟨Rect.unit (s := S256x4096) ![0, 2048] S256x512.size inb_S256x4096_S256x512_0_2048, k0_pay83 (F := Ideal) f.toPt.r_19 (f.ldA4 xs3) f.toPt.v413⟩,
    ⟨Rect.unit (s := S256x4096) ![0, 1536] S256x512.size inb_S256x4096_S256x512_0_1536, k0_pay82 (F := Ideal) f.toPt.r_19 (f.ldA3 xs3) f.toPt.v406⟩,
    ⟨Rect.unit (s := S256x4096) ![0, 1024] S256x512.size inb_S256x4096_S256x512_0_1024, k0_pay81 (F := Ideal) f.toPt.r_19 (f.ldA2 xs3) f.toPt.v399⟩,
    ⟨Rect.unit (s := S256x4096) ![0, 512] S256x512.size inb_S256x4096_S256x512_0_512, k0_pay80 (F := Ideal) (k0_pay79 (F := Ideal) f.toPt.r f.toPt.r_1 (f.ldA1 xs3) f.toPt.v392)⟩,
    ⟨Rect.unit (s := S256x4096) ![0, 0] S256x512.size inb_S256x4096_S256x512_0_0, k0_pay78 (F := Ideal) f.toPt.r f.toPt.r_1 (f.ldA0 xs3) f.toPt.v385⟩]

theorem accL_apply (xs3 : Vec Ideal S256x4096 .f32) (d : Fin 256) (j : Fin 4096) :
    View.canon (Val := Elt Ideal) (s := S256x4096) (e := .f32) (f.accL xs3) (ix2 d j) = xs3 (ix2 d j) + f.toPt.inc d j := by
  refine Strip.below (Val := Elt Ideal) (e := .f32) 3584 _ (fun d j => xs3 (ix2 d j) + f.toPt.inc d j) _ _ (fun d q _ => (f.toPt.s7 _ d q).trans (congrArg (· + _) (f.ldA7_apply xs3 d q)))
    (Strip.below (Val := Elt Ideal) (e := .f32) 3072 _ (fun d j => xs3 (ix2 d j) + f.toPt.inc d j) _ _ (fun d q _ => (f.toPt.s6 _ d q).trans (congrArg (· + _) (f.ldA6_apply xs3 d q)))
    (Strip.below (Val := Elt Ideal) (e := .f32) 2560 _ (fun d j => xs3 (ix2 d j) + f.toPt.inc d j) _ _ (fun d q _ => (f.toPt.s5 _ d q).trans (congrArg (· + _) (f.ldA5_apply xs3 d q)))
    (Strip.below (Val := Elt Ideal) (e := .f32) 2048 _ (fun d j => xs3 (ix2 d j) + f.toPt.inc d j) _ _ (fun d q _ => (f.toPt.s4 _ d q).trans (congrArg (· + _) (f.ldA4_apply xs3 d q)))
    (Strip.below (Val := Elt Ideal) (e := .f32) 1536 _ (fun d j => xs3 (ix2 d j) + f.toPt.inc d j) _ _ (fun d q _ => (f.toPt.s3 _ d q).trans (congrArg (· + _) (f.ldA3_apply xs3 d q)))
    (Strip.below (Val := Elt Ideal) (e := .f32) 1024 _ (fun d j => xs3 (ix2 d j) + f.toPt.inc d j) _ _ (fun d q _ => (f.toPt.s2 _ d q).trans (congrArg (· + _) (f.ldA2_apply xs3 d q)))
    (Strip.below (Val := Elt Ideal) (e := .f32) 512 _ (fun d j => xs3 (ix2 d j) + f.toPt.inc d j) _ _ (fun d q _ => (f.toPt.s1 _ d q).trans (congrArg (· + _) (f.ldA1_apply xs3 d q)))
    (Strip.below (Val := Elt Ideal) (e := .f32) 0 _ (fun d j => xs3 (ix2 d j) + f.toPt.inc d j) _ _ (fun d q _ => (f.toPt.s0 _ d q).trans (congrArg (· + _) (f.ldA0_apply xs3 d q))) ?_ 512 rfl) 1024 rfl) 1536 rfl) 2048 rfl) 2560 rfl) 3072 rfl) 3584 rfl) 4096 rfl d j j.isLt
  intro d j hj
  exact absurd hj (Nat.not_lt_zero _)

/-! ## The running product at a first point, which starts from zero -/

abbrev HS3_1 : List (View.Piece (Elt Ideal) S256x4096 .f32) := kernelRun0_A.sl.HS3_1 (F := Ideal)
abbrev HS3_2 := kernelRun0_A.sl.HS3_2 (F := Ideal) f.c f.i f.a2 f.h2 f.a3 f.h3 f.a4 f.h4 f.a5 f.h5 f.a6 f.h6 f.a11 f.a12 f.a13 f.x0 f.x1 f.x2 f.x3 f.x4
abbrev HS3_3 := kernelRun0_A.sl.HS3_3 (F := Ideal) f.c f.i f.a2 f.h2 f.a3 f.h3 f.a4 f.h4 f.a5 f.h5 f.a6 f.h6 f.a11 f.a12 f.a13 f.x0 f.x1 f.x2 f.x3 f.x4
abbrev HS3_4 := kernelRun0_A.sl.HS3_4 (F := Ideal) f.c f.i f.a2 f.h2 f.a3 f.h3 f.a4 f.h4 f.a5 f.h5 f.a6 f.h6 f.a11 f.a12 f.a13 f.x0 f.x1 f.x2 f.x3 f.x4
abbrev HS3_5 := kernelRun0_A.sl.HS3_5 (F := Ideal) f.c f.i f.a2 f.h2 f.a3 f.h3 f.a4 f.h4 f.a5 f.h5 f.a6 f.h6 f.a11 f.a12 f.a13 f.x0 f.x1 f.x2 f.x3 f.x4
abbrev HS3_6 := kernelRun0_A.sl.HS3_6 (F := Ideal) f.c f.i f.a2 f.h2 f.a3 f.h3 f.a4 f.h4 f.a5 f.h5 f.a6 f.h6 f.a11 f.a12 f.a13 f.x0 f.x1 f.x2 f.x3 f.x4
abbrev HS3_7 := kernelRun0_A.sl.HS3_7 (F := Ideal) f.c f.i f.a2 f.h2 f.a3 f.h3 f.a4 f.h4 f.a5 f.h5 f.a6 f.h6 f.a11 f.a12 f.a13 f.x0 f.x1 f.x2 f.x3 f.x4
abbrev HS3_8 := kernelRun0_A.sl.HS3_8 (F := Ideal) f.c f.i f.a2 f.h2 f.a3 f.h3 f.a4 f.h4 f.a5 f.h5 f.a6 f.h6 f.a11 f.a12 f.a13 f.x0 f.x1 f.x2 f.x3 f.x4
abbrev v384 := kernelRun0_A.sl.v384 (F := Ideal) f.c f.a13
abbrev v391 := kernelRun0_A.sl.v391 (F := Ideal) f.c f.i f.a2 f.h2 f.a3 f.h3 f.a4 f.h4 f.a5 f.h5 f.a6 f.h6 f.a11 f.a12 f.a13 f.x0 f.x1 f.x2 f.x3 f.x4
abbrev v398 := kernelRun0_A.sl.v398 (F := Ideal) f.c f.i f.a2 f.h2 f.a3 f.h3 f.a4 f.h4 f.a5 f.h5 f.a6 f.h6 f.a11 f.a12 f.a13 f.x0 f.x1 f.x2 f.x3 f.x4
abbrev v405 := kernelRun0_A.sl.v405 (F := Ideal) f.c f.i f.a2 f.h2 f.a3 f.h3 f.a4 f.h4 f.a5 f.h5 f.a6 f.h6 f.a11 f.a12 f.a13 f.x0 f.x1 f.x2 f.x3 f.x4
abbrev v412 := kernelRun0_A.sl.v412 (F := Ideal) f.c f.i f.a2 f.h2 f.a3 f.h3 f.a4 f.h4 f.a5 f.h5 f.a6 f.h6 f.a11 f.a12 f.a13 f.x0 f.x1 f.x2 f.x3 f.x4
abbrev v419 := kernelRun0_A.sl.v419 (F := Ideal) f.c f.i f.a2 f.h2 f.a3 f.h3 f.a4 f.h4 f.a5 f.h5 f.a6 f.h6 f.a11 f.a12 f.a13 f.x0 f.x1 f.x2 f.x3 f.x4
abbrev v426 := kernelRun0_A.sl.v426 (F := Ideal) f.c f.i f.a2 f.h2 f.a3 f.h3 f.a4 f.h4 f.a5 f.h5 f.a6 f.h6 f.a11 f.a12 f.a13 f.x0 f.x1 f.x2 f.x3 f.x4
abbrev v433 := kernelRun0_A.sl.v433 (F := Ideal) f.c f.i f.a2 f.h2 f.a3 f.h3 f.a4 f.h4 f.a5 f.h5 f.a6 f.h6 f.a11 f.a12 f.a13 f.x0 f.x1 f.x2 f.x3 f.x4
abbrev HS3_9 := ⟨Rect.unit (s := S256x4096) ![0, 3584] S256x512.size inb_S256x4096_S256x512_0_3584, k0_pay3 (F := Ideal) f.toPt.r_19 f.v433 f.toPt.v434⟩ :: f.HS3_8
theorem HS3_2_eq : f.HS3_2 = ⟨Rect.unit (s := S256x4096) ![0, 0] S256x512.size inb_S256x4096_S256x512_0_0, k0_pay78 (F := Ideal) f.toPt.r f.toPt.r_1 f.v384 f.toPt.v385⟩ :: HS3_1 := rfl
theorem HS3_3_eq : f.HS3_3 = ⟨Rect.unit (s := S256x4096) ![0, 512] S256x512.size inb_S256x4096_S256x512_0_512, k0_pay80 (F := Ideal) (k0_pay79 (F := Ideal) f.toPt.r f.toPt.r_1 f.v391 f.toPt.v392)⟩ :: f.HS3_2 := rfl
theorem HS3_4_eq : f.HS3_4 = ⟨Rect.unit (s := S256x4096) ![0, 1024] S256x512.size inb_S256x4096_S256x512_0_1024, k0_pay81 (F := Ideal) f.toPt.r_19 f.v398 f.toPt.v399⟩ :: f.HS3_3 := rfl
theorem HS3_5_eq : f.HS3_5 = ⟨Rect.unit (s := S256x4096) ![0, 1536] S256x512.size inb_S256x4096_S256x512_0_1536, k0_pay82 (F := Ideal) f.toPt.r_19 f.v405 f.toPt.v406⟩ :: f.HS3_4 := rfl
theorem HS3_6_eq : f.HS3_6 = ⟨Rect.unit (s := S256x4096) ![0, 2048] S256x512.size inb_S256x4096_S256x512_0_2048, k0_pay83 (F := Ideal) f.toPt.r_19 f.v412 f.toPt.v413⟩ :: f.HS3_5 := rfl
theorem HS3_7_eq : f.HS3_7 = ⟨Rect.unit (s := S256x4096) ![0, 2560] S256x512.size inb_S256x4096_S256x512_0_2560, k0_pay1 (F := Ideal) (k0_pay84 (F := Ideal) f.toPt.r_19 f.v419 f.toPt.v420)⟩ :: f.HS3_6 := rfl
theorem HS3_8_eq : f.HS3_8 = ⟨Rect.unit (s := S256x4096) ![0, 3072] S256x512.size inb_S256x4096_S256x512_0_3072, k0_pay2 (F := Ideal) f.toPt.r_19 f.v426 f.toPt.v427⟩ :: f.HS3_7 := rfl
theorem HS3_9_eq : f.HS3_9 = ⟨Rect.unit (s := S256x4096) ![0, 3584] S256x512.size inb_S256x4096_S256x512_0_3584, k0_pay3 (F := Ideal) f.toPt.r_19 f.v433 f.toPt.v434⟩ :: f.HS3_8 := rfl

theorem HS3_1_apply (d : Fin 256) (j : Fin 4096) :
    View.canon (Val := Elt Ideal) (s := S256x4096) (e := .f32) HS3_1 (ix2 d j) = if j.val < 0 then f.toPt.inc d j else 0 := by
  rw [if_neg (Nat.not_lt_zero _)]
  refine (Strip.canon_in (W := 4096) ![0, 0] inb_S256x4096_S256x4096_0_0 0 rfl rfl _ _ d j j (Nat.zero_add _).symm).trans ?_
  exact Payload.pay13 d j
theorem v384_apply (d : Fin 256) (q : Fin 512) : f.v384 (ix2 d q) = 0 :=
  (Strip.load (W := 512) f.a13.view ![0, 0] inb_S256x4096_S256x512_0_0 0 rfl rfl HS3_1 d q (by omega)).trans
    ((f.HS3_1_apply d _).trans (if_neg (by simp only; omega)))
theorem HS3_2_apply (d : Fin 256) (j : Fin 4096) :
    View.canon (Val := Elt Ideal) (s := S256x4096) (e := .f32) f.HS3_2 (ix2 d j) = if j.val < 512 then f.toPt.inc d j else 0 := by
  rw [HS3_2_eq]
  exact Strip.update (Val := Elt Ideal) (e := .f32) 0 _ f.toPt.inc (fun _ _ => (0 : EReal)) _ _
    (fun d q _ => (f.toPt.s0 _ d q).trans ((congrArg (· + _) (f.v384_apply d q)).trans (zero_add _))) f.HS3_1_apply 512 rfl d j
theorem v391_apply (d : Fin 256) (q : Fin 512) : f.v391 (ix2 d q) = 0 :=
  (Strip.load (W := 512) f.a13.view ![0, 512] inb_S256x4096_S256x512_0_512 512 rfl rfl f.HS3_2 d q (by omega)).trans
    ((f.HS3_2_apply d _).trans (if_neg (by simp only; omega)))
theorem HS3_3_apply (d : Fin 256) (j : Fin 4096) :
    View.canon (Val := Elt Ideal) (s := S256x4096) (e := .f32) f.HS3_3 (ix2 d j) = if j.val < 1024 then f.toPt.inc d j else 0 := by
  rw [HS3_3_eq]
  exact Strip.update (Val := Elt Ideal) (e := .f32) 512 _ f.toPt.inc (fun _ _ => (0 : EReal)) _ _
    (fun d q _ => (f.toPt.s1 _ d q).trans ((congrArg (· + _) (f.v391_apply d q)).trans (zero_add _))) f.HS3_2_apply 1024 rfl d j
theorem v398_apply (d : Fin 256) (q : Fin 512) : f.v398 (ix2 d q) = 0 :=
  (Strip.load (W := 512) f.a13.view ![0, 1024] inb_S256x4096_S256x512_0_1024 1024 rfl rfl f.HS3_3 d q (by omega)).trans
    ((f.HS3_3_apply d _).trans (if_neg (by simp only; omega)))
theorem HS3_4_apply (d : Fin 256) (j : Fin 4096) :
    View.canon (Val := Elt Ideal) (s := S256x4096) (e := .f32) f.HS3_4 (ix2 d j) = if j.val < 1536 then f.toPt.inc d j else 0 := by
  rw [HS3_4_eq]
  exact Strip.update (Val := Elt Ideal) (e := .f32) 1024 _ f.toPt.inc (fun _ _ => (0 : EReal)) _ _
    (fun d q _ => (f.toPt.s2 _ d q).trans ((congrArg (· + _) (f.v398_apply d q)).trans (zero_add _))) f.HS3_3_apply 1536 rfl d j
theorem v405_apply (d : Fin 256) (q : Fin 512) : f.v405 (ix2 d q) = 0 :=
  (Strip.load (W := 512) f.a13.view ![0, 1536] inb_S256x4096_S256x512_0_1536 1536 rfl rfl f.HS3_4 d q (by omega)).trans
    ((f.HS3_4_apply d _).trans (if_neg (by simp only; omega)))
theorem HS3_5_apply (d : Fin 256) (j : Fin 4096) :
    View.canon (Val := Elt Ideal) (s := S256x4096) (e := .f32) f.HS3_5 (ix2 d j) = if j.val < 2048 then f.toPt.inc d j else 0 := by
  rw [HS3_5_eq]
  exact Strip.update (Val := Elt Ideal) (e := .f32) 1536 _ f.toPt.inc (fun _ _ => (0 : EReal)) _ _
    (fun d q _ => (f.toPt.s3 _ d q).trans ((congrArg (· + _) (f.v405_apply d q)).trans (zero_add _))) f.HS3_4_apply 2048 rfl d j
theorem v412_apply (d : Fin 256) (q : Fin 512) : f.v412 (ix2 d q) = 0 :=
  (Strip.load (W := 512) f.a13.view ![0, 2048] inb_S256x4096_S256x512_0_2048 2048 rfl rfl f.HS3_5 d q (by omega)).trans
    ((f.HS3_5_apply d _).trans (if_neg (by simp only; omega)))
theorem HS3_6_apply (d : Fin 256) (j : Fin 4096) :
    View.canon (Val := Elt Ideal) (s := S256x4096) (e := .f32) f.HS3_6 (ix2 d j) = if j.val < 2560 then f.toPt.inc d j else 0 := by
  rw [HS3_6_eq]
  exact Strip.update (Val := Elt Ideal) (e := .f32) 2048 _ f.toPt.inc (fun _ _ => (0 : EReal)) _ _
    (fun d q _ => (f.toPt.s4 _ d q).trans ((congrArg (· + _) (f.v412_apply d q)).trans (zero_add _))) f.HS3_5_apply 2560 rfl d j
theorem v419_apply (d : Fin 256) (q : Fin 512) : f.v419 (ix2 d q) = 0 :=
  (Strip.load (W := 512) f.a13.view ![0, 2560] inb_S256x4096_S256x512_0_2560 2560 rfl rfl f.HS3_6 d q (by omega)).trans
    ((f.HS3_6_apply d _).trans (if_neg (by simp only; omega)))
theorem HS3_7_apply (d : Fin 256) (j : Fin 4096) :
    View.canon (Val := Elt Ideal) (s := S256x4096) (e := .f32) f.HS3_7 (ix2 d j) = if j.val < 3072 then f.toPt.inc d j else 0 := by
  rw [HS3_7_eq]
  exact Strip.update (Val := Elt Ideal) (e := .f32) 2560 _ f.toPt.inc (fun _ _ => (0 : EReal)) _ _
    (fun d q _ => (f.toPt.s5 _ d q).trans ((congrArg (· + _) (f.v419_apply d q)).trans (zero_add _))) f.HS3_6_apply 3072 rfl d j
theorem v426_apply (d : Fin 256) (q : Fin 512) : f.v426 (ix2 d q) = 0 :=
  (Strip.load (W := 512) f.a13.view ![0, 3072] inb_S256x4096_S256x512_0_3072 3072 rfl rfl f.HS3_7 d q (by omega)).trans
    ((f.HS3_7_apply d _).trans (if_neg (by simp only; omega)))
theorem HS3_8_apply (d : Fin 256) (j : Fin 4096) :
    View.canon (Val := Elt Ideal) (s := S256x4096) (e := .f32) f.HS3_8 (ix2 d j) = if j.val < 3584 then f.toPt.inc d j else 0 := by
  rw [HS3_8_eq]
  exact Strip.update (Val := Elt Ideal) (e := .f32) 3072 _ f.toPt.inc (fun _ _ => (0 : EReal)) _ _
    (fun d q _ => (f.toPt.s6 _ d q).trans ((congrArg (· + _) (f.v426_apply d q)).trans (zero_add _))) f.HS3_7_apply 3584 rfl d j
theorem v433_apply (d : Fin 256) (q : Fin 512) : f.v433 (ix2 d q) = 0 :=
  (Strip.load (W := 512) f.a13.view ![0, 3584] inb_S256x4096_S256x512_0_3584 3584 rfl rfl f.HS3_8 d q (by omega)).trans
    ((f.HS3_8_apply d _).trans (if_neg (by simp only; omega)))
theorem HS3_9_apply (d : Fin 256) (j : Fin 4096) :
    View.canon (Val := Elt Ideal) (s := S256x4096) (e := .f32) f.HS3_9 (ix2 d j) = if j.val < 4096 then f.toPt.inc d j else 0 := by
  rw [HS3_9_eq]
  exact Strip.update (Val := Elt Ideal) (e := .f32) 3584 _ f.toPt.inc (fun _ _ => (0 : EReal)) _ _
    (fun d q _ => (f.toPt.s7 _ d q).trans ((congrArg (· + _) (f.v433_apply d q)).trans (zero_add _))) f.HS3_8_apply 4096 rfl d j

/-! ## The scaled item rows -/

abbrev HS0_1 := kernelRun0_A.sl.HS0_1 (F := Ideal) f.c f.a4 f.h4 f.a5 f.h5 f.x2 f.x3
abbrev v371 := kernelRun0_A.sl.v371 (F := Ideal) f.c f.a4 f.h4 f.a5 f.h5 f.a10 f.x2 f.x3

theorem HS0_1_apply (j : Fin 4096) (d : Fin 256) :
    View.canon (Val := Elt Ideal) (s := S4096x256) (e := .bf16) f.HS0_1 (ix2 j d) = f.x2 (ix3 0 j d) * f.x3 (ix3 0 0 j) := by
  refine (Strip.canon_in (W := 256) ![0, 0] inb_S4096x256_S4096x256_0_0 0 rfl rfl _ _ j d d (Nat.zero_add _).symm).trans ?_
  refine (Payload.pay12 ..).trans (congrArg₂ (· * ·) ?_ ?_)
  · rw [View.readAt_eq_ld, f.h4.read_unread]
    pointwise
  · rw [View.readAt_eq_ld, f.h5.read_unread]
    pointwise

theorem v371_apply (j : Fin 4096) (d : Fin 256) : f.v371 (ix2 j d) = f.x2 (ix3 0 j d) * f.x3 (ix3 0 0 j) :=
  (Strip.load (W := 256) f.a10.view ![0, 0] inb_S4096x256_S4096x256_0_0 0 rfl rfl f.HS0_1 j d (by omega)).trans
    ((f.HS0_1_apply j _).trans (by rw [show (⟨0 + d.val, by omega⟩ : Fin 256) = d from Fin.ext (Nat.zero_add _)]))

/-- The scaled item rows as a later point loads them. -/
abbrev ldVh (xs0 : Vec Ideal S4096x256 .bf16) := View.readAt (Elt Ideal) f.a10.view (Rect.unit (s := S4096x256) ![0, 0] S4096x256.size inb_S4096x256_S4096x256_0_0).toLoadRect (f.h10.unread xs0)
theorem ldVh_apply (xs0 : Vec Ideal S4096x256 .bf16) (j : Fin 4096) (d : Fin 256) : f.ldVh xs0 (ix2 j d) = xs0 (ix2 j d) := by
  unfold ldVh
  rw [View.readAt_eq_ld, f.h10.read_unread]
  exact (Strip.ld (W := 256) 0 _ _ j d (by omega)).trans (by rw [show (⟨0 + d.val, by omega⟩ : Fin 256) = d from Fin.ext (Nat.zero_add _)])

/-! ## The outputs -/

theorem out_A_5 (hc0 : cond0_0 f.i) (hc1 : ¬cond0_1 f.i) (r : Fin 512) :
    out0_A_5 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 (ix3 0 0 r) = Row.lse (f.toPt.L r) - f.toPt.L r (f.toPt.own r) := by
  have e : out0_A_5 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 = View.canon (Val := Elt Ideal) (s := S1x1x512) (e := .f32)
      [⟨Rect.unit (s := S1x1x512) ![0, 0, 0] S1x1x512.size inb_S1x1x512_S1x1x512_0_0_0, k0_pay64 (F := Ideal) f.toPt.r_11 f.toPt.r_12 f.toPt.r_16 f.toPt.r_17⟩] :=
    View.read_writes_junk_eq_canon _ _
  rw [e]
  exact (Strip.canon_in3 (W := 1) 0 _ _ _ 0 r 0 rfl).trans (f.toPt.loss_apply r)

theorem out_A_6 (hc0 : cond0_0 f.i) (hc1 : ¬cond0_1 f.i) (r : Fin 512) (d : Fin 256) :
    out0_A_6 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 (ix3 0 r d) = (∑ j, f.toPt.G r j * (f.x2 (ix3 0 j d) * f.x3 (ix3 0 0 j))) * ((20 : ℝ) : EReal) := by
  have e : out0_A_6 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 = View.canon (Val := Elt Ideal) (s := S1x512x256) (e := .bf16)
      [⟨Rect.unit (s := S1x512x256) ![0, 0, 0] S1x512x256.size inb_S1x512x256_S1x512x256_0_0_0, k0_pay76 (F := Ideal) f.toPt.v370 f.v371⟩] :=
    View.read_writes_junk_eq_canon _ _
  rw [e]
  refine (Strip.canon_in3 (W := 512) 0 _ _ _ r d r (Nat.zero_add _).symm).trans ((Payload.pay76 ..).trans ?_)
  exact congrArg (· * _) (Finset.sum_congr rfl fun j _ => congrArg₂ (· * ·) (f.toPt.v370_apply r j) (f.v371_apply j d))

theorem sout_A_0 (hc0 : cond0_0 f.i) (hc1 : ¬cond0_1 f.i) (j : Fin 4096) (d : Fin 256) :
    sout0_A_0 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 (ix2 j d) = f.x2 (ix3 0 j d) * f.x3 (ix3 0 0 j) := by
  have e : sout0_A_0 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 = View.canon (Val := Elt Ideal) (s := S4096x256) (e := .bf16) f.HS0_1 :=
    View.read_writes_junk_eq_canon _ _
  rw [e]
  exact f.HS0_1_apply j d

theorem sout_A_3 (hc0 : cond0_0 f.i) (hc1 : ¬cond0_1 f.i) (d : Fin 256) (j : Fin 4096) :
    sout0_A_3 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 (ix2 d j) = f.toPt.inc d j := by
  have e : sout0_A_3 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 = View.canon (Val := Elt Ideal) (s := S256x4096) (e := .f32) f.HS3_9 :=
    View.read_writes_junk_eq_canon _ _
  rw [e]
  exact (f.HS3_9_apply d j).trans (if_pos j.isLt)

theorem out_B_5 (hc0 : ¬cond0_0 f.i) (hc1 : ¬cond0_1 f.i) (xs0 : Vec Ideal S4096x256 .bf16) (xs3 : Vec Ideal S256x4096 .f32) (r : Fin 512) :
    out0_B_5 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 (ix3 0 0 r) = Row.lse (f.toPt.L r) - f.toPt.L r (f.toPt.own r) := by
  have e : out0_B_5 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 = View.canon (Val := Elt Ideal) (s := S1x1x512) (e := .f32)
      [⟨Rect.unit (s := S1x1x512) ![0, 0, 0] S1x1x512.size inb_S1x1x512_S1x1x512_0_0_0, k0_pay64 (F := Ideal) f.toPt.r_11 f.toPt.r_12 f.toPt.r_16 f.toPt.r_17⟩] :=
    View.read_writes_junk_eq_canon _ _
  rw [e]
  exact (Strip.canon_in3 (W := 1) 0 _ _ _ 0 r 0 rfl).trans (f.toPt.loss_apply r)

theorem out_B_6 (hc0 : ¬cond0_0 f.i) (hc1 : ¬cond0_1 f.i) (xs0 : Vec Ideal S4096x256 .bf16) (xs3 : Vec Ideal S256x4096 .f32) (r : Fin 512) (d : Fin 256) :
    out0_B_6 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 (ix3 0 r d) = (∑ j, f.toPt.G r j * (xs0 (ix2 j d))) * ((20 : ℝ) : EReal) := by
  have e : out0_B_6 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 = View.canon (Val := Elt Ideal) (s := S1x512x256) (e := .bf16)
      [⟨Rect.unit (s := S1x512x256) ![0, 0, 0] S1x512x256.size inb_S1x512x256_S1x512x256_0_0_0, k0_pay76 (F := Ideal) f.toPt.v370 (f.ldVh xs0)⟩] :=
    View.read_writes_junk_eq_canon _ _
  rw [e]
  refine (Strip.canon_in3 (W := 512) 0 _ _ _ r d r (Nat.zero_add _).symm).trans ((Payload.pay76 ..).trans ?_)
  exact congrArg (· * _) (Finset.sum_congr rfl fun j _ => congrArg₂ (· * ·) (f.toPt.v370_apply r j) (f.ldVh_apply xs0 j d))

theorem sout_B_3 (hc0 : ¬cond0_0 f.i) (hc1 : ¬cond0_1 f.i) (xs0 : Vec Ideal S4096x256 .bf16) (xs3 : Vec Ideal S256x4096 .f32) (d : Fin 256) (j : Fin 4096) :
    sout0_B_3 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 (ix2 d j) = xs3 (ix2 d j) + f.toPt.inc d j := by
  have e : sout0_B_3 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 = View.canon (Val := Elt Ideal) (s := S256x4096) (e := .f32) (f.accL xs3) :=
    View.read_writes_junk_eq_canon _ _
  rw [e]
  exact f.accL_apply xs3 d j

theorem out_C_5 (hc0 : ¬cond0_0 f.i) (hc1 : cond0_1 f.i) (xs0 : Vec Ideal S4096x256 .bf16) (xs3 : Vec Ideal S256x4096 .f32) (r : Fin 512) :
    out0_C_5 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 (ix3 0 0 r) = Row.lse (f.toPt.L r) - f.toPt.L r (f.toPt.own r) := by
  have e : out0_C_5 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 = View.canon (Val := Elt Ideal) (s := S1x1x512) (e := .f32)
      [⟨Rect.unit (s := S1x1x512) ![0, 0, 0] S1x1x512.size inb_S1x1x512_S1x1x512_0_0_0, k0_pay64 (F := Ideal) f.toPt.r_11 f.toPt.r_12 f.toPt.r_16 f.toPt.r_17⟩] :=
    View.read_writes_junk_eq_canon _ _
  rw [e]
  exact (Strip.canon_in3 (W := 1) 0 _ _ _ 0 r 0 rfl).trans (f.toPt.loss_apply r)

theorem out_C_6 (hc0 : ¬cond0_0 f.i) (hc1 : cond0_1 f.i) (xs0 : Vec Ideal S4096x256 .bf16) (xs3 : Vec Ideal S256x4096 .f32) (r : Fin 512) (d : Fin 256) :
    out0_C_6 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 (ix3 0 r d) = (∑ j, f.toPt.G r j * (xs0 (ix2 j d))) * ((20 : ℝ) : EReal) := by
  have e : out0_C_6 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 = View.canon (Val := Elt Ideal) (s := S1x512x256) (e := .bf16)
      [⟨Rect.unit (s := S1x512x256) ![0, 0, 0] S1x512x256.size inb_S1x512x256_S1x512x256_0_0_0, k0_pay76 (F := Ideal) f.toPt.v370 (f.ldVh xs0)⟩] :=
    View.read_writes_junk_eq_canon _ _
  rw [e]
  refine (Strip.canon_in3 (W := 512) 0 _ _ _ r d r (Nat.zero_add _).symm).trans ((Payload.pay76 ..).trans ?_)
  exact congrArg (· * _) (Finset.sum_congr rfl fun j _ => congrArg₂ (· * ·) (f.toPt.v370_apply r j) (f.ldVh_apply xs0 j d))

theorem sout_C_3 (hc0 : ¬cond0_0 f.i) (hc1 : cond0_1 f.i) (xs0 : Vec Ideal S4096x256 .bf16) (xs3 : Vec Ideal S256x4096 .f32) (d : Fin 256) (j : Fin 4096) :
    sout0_C_3 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 (ix2 d j) = xs3 (ix2 d j) + f.toPt.inc d j := by
  have e : sout0_C_3 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 = View.canon (Val := Elt Ideal) (s := S256x4096) (e := .f32) (f.accL xs3) :=
    View.read_writes_junk_eq_canon _ _
  rw [e]
  exact f.accL_apply xs3 d j

/-- The last point's loads of the running product, which it scales and writes out. -/
abbrev ldD0 (xs3 : Vec Ideal S256x4096 .f32) := f.a13.view.readCov (Val := Elt Ideal) (f.accL xs3) (Rect.unit (s := S256x4096) ![0, 0] S256x512.size inb_S256x4096_S256x512_0_0).toLoadRect
theorem d0 (xs3 : Vec Ideal S256x4096 .f32) (q : Fin 512) (d : Fin 256) :
    k0_pay4 (F := Ideal) (f.ldD0 xs3) (ix3 0 q d) = (xs3 (ix2 d ⟨0 + q.val, by omega⟩) + f.toPt.inc d ⟨0 + q.val, by omega⟩) * ((20 : ℝ) : EReal) :=
  (Payload.pay4 ..).trans (congrArg (· * _)
    ((Strip.load (W := 512) f.a13.view ![0, 0] inb_S256x4096_S256x512_0_0 0 rfl rfl (f.accL xs3) d q (by omega)).trans (f.accL_apply xs3 d _)))
abbrev ldD1 (xs3 : Vec Ideal S256x4096 .f32) := f.a13.view.readCov (Val := Elt Ideal) (f.accL xs3) (Rect.unit (s := S256x4096) ![0, 512] S256x512.size inb_S256x4096_S256x512_0_512).toLoadRect
theorem d1 (xs3 : Vec Ideal S256x4096 .f32) (q : Fin 512) (d : Fin 256) :
    k0_pay5 (F := Ideal) (f.ldD1 xs3) (ix3 0 q d) = (xs3 (ix2 d ⟨512 + q.val, by omega⟩) + f.toPt.inc d ⟨512 + q.val, by omega⟩) * ((20 : ℝ) : EReal) :=
  (Payload.pay5 ..).trans (congrArg (· * _)
    ((Strip.load (W := 512) f.a13.view ![0, 512] inb_S256x4096_S256x512_0_512 512 rfl rfl (f.accL xs3) d q (by omega)).trans (f.accL_apply xs3 d _)))
abbrev ldD2 (xs3 : Vec Ideal S256x4096 .f32) := f.a13.view.readCov (Val := Elt Ideal) (f.accL xs3) (Rect.unit (s := S256x4096) ![0, 1024] S256x512.size inb_S256x4096_S256x512_0_1024).toLoadRect
theorem d2 (xs3 : Vec Ideal S256x4096 .f32) (q : Fin 512) (d : Fin 256) :
    k0_pay6 (F := Ideal) (f.ldD2 xs3) (ix3 0 q d) = (xs3 (ix2 d ⟨1024 + q.val, by omega⟩) + f.toPt.inc d ⟨1024 + q.val, by omega⟩) * ((20 : ℝ) : EReal) :=
  (Payload.pay6 ..).trans (congrArg (· * _)
    ((Strip.load (W := 512) f.a13.view ![0, 1024] inb_S256x4096_S256x512_0_1024 1024 rfl rfl (f.accL xs3) d q (by omega)).trans (f.accL_apply xs3 d _)))
abbrev ldD3 (xs3 : Vec Ideal S256x4096 .f32) := f.a13.view.readCov (Val := Elt Ideal) (f.accL xs3) (Rect.unit (s := S256x4096) ![0, 1536] S256x512.size inb_S256x4096_S256x512_0_1536).toLoadRect
theorem d3 (xs3 : Vec Ideal S256x4096 .f32) (q : Fin 512) (d : Fin 256) :
    k0_pay7 (F := Ideal) (f.ldD3 xs3) (ix3 0 q d) = (xs3 (ix2 d ⟨1536 + q.val, by omega⟩) + f.toPt.inc d ⟨1536 + q.val, by omega⟩) * ((20 : ℝ) : EReal) :=
  (Payload.pay7 ..).trans (congrArg (· * _)
    ((Strip.load (W := 512) f.a13.view ![0, 1536] inb_S256x4096_S256x512_0_1536 1536 rfl rfl (f.accL xs3) d q (by omega)).trans (f.accL_apply xs3 d _)))
abbrev ldD4 (xs3 : Vec Ideal S256x4096 .f32) := f.a13.view.readCov (Val := Elt Ideal) (f.accL xs3) (Rect.unit (s := S256x4096) ![0, 2048] S256x512.size inb_S256x4096_S256x512_0_2048).toLoadRect
theorem d4 (xs3 : Vec Ideal S256x4096 .f32) (q : Fin 512) (d : Fin 256) :
    k0_pay8 (F := Ideal) (f.ldD4 xs3) (ix3 0 q d) = (xs3 (ix2 d ⟨2048 + q.val, by omega⟩) + f.toPt.inc d ⟨2048 + q.val, by omega⟩) * ((20 : ℝ) : EReal) :=
  (Payload.pay8 ..).trans (congrArg (· * _)
    ((Strip.load (W := 512) f.a13.view ![0, 2048] inb_S256x4096_S256x512_0_2048 2048 rfl rfl (f.accL xs3) d q (by omega)).trans (f.accL_apply xs3 d _)))
abbrev ldD5 (xs3 : Vec Ideal S256x4096 .f32) := f.a13.view.readCov (Val := Elt Ideal) (f.accL xs3) (Rect.unit (s := S256x4096) ![0, 2560] S256x512.size inb_S256x4096_S256x512_0_2560).toLoadRect
theorem d5 (xs3 : Vec Ideal S256x4096 .f32) (q : Fin 512) (d : Fin 256) :
    k0_pay9 (F := Ideal) (f.ldD5 xs3) (ix3 0 q d) = (xs3 (ix2 d ⟨2560 + q.val, by omega⟩) + f.toPt.inc d ⟨2560 + q.val, by omega⟩) * ((20 : ℝ) : EReal) :=
  (Payload.pay9 ..).trans (congrArg (· * _)
    ((Strip.load (W := 512) f.a13.view ![0, 2560] inb_S256x4096_S256x512_0_2560 2560 rfl rfl (f.accL xs3) d q (by omega)).trans (f.accL_apply xs3 d _)))
abbrev ldD6 (xs3 : Vec Ideal S256x4096 .f32) := f.a13.view.readCov (Val := Elt Ideal) (f.accL xs3) (Rect.unit (s := S256x4096) ![0, 3072] S256x512.size inb_S256x4096_S256x512_0_3072).toLoadRect
theorem d6 (xs3 : Vec Ideal S256x4096 .f32) (q : Fin 512) (d : Fin 256) :
    k0_pay10 (F := Ideal) (f.ldD6 xs3) (ix3 0 q d) = (xs3 (ix2 d ⟨3072 + q.val, by omega⟩) + f.toPt.inc d ⟨3072 + q.val, by omega⟩) * ((20 : ℝ) : EReal) :=
  (Payload.pay10 ..).trans (congrArg (· * _)
    ((Strip.load (W := 512) f.a13.view ![0, 3072] inb_S256x4096_S256x512_0_3072 3072 rfl rfl (f.accL xs3) d q (by omega)).trans (f.accL_apply xs3 d _)))
abbrev ldD7 (xs3 : Vec Ideal S256x4096 .f32) := f.a13.view.readCov (Val := Elt Ideal) (f.accL xs3) (Rect.unit (s := S256x4096) ![0, 3584] S256x512.size inb_S256x4096_S256x512_0_3584).toLoadRect
theorem d7 (xs3 : Vec Ideal S256x4096 .f32) (q : Fin 512) (d : Fin 256) :
    k0_pay11 (F := Ideal) (f.ldD7 xs3) (ix3 0 q d) = (xs3 (ix2 d ⟨3584 + q.val, by omega⟩) + f.toPt.inc d ⟨3584 + q.val, by omega⟩) * ((20 : ℝ) : EReal) :=
  (Payload.pay11 ..).trans (congrArg (· * _)
    ((Strip.load (W := 512) f.a13.view ![0, 3584] inb_S256x4096_S256x512_0_3584 3584 rfl rfl (f.accL xs3) d q (by omega)).trans (f.accL_apply xs3 d _)))

theorem out_C_7 (hc0 : ¬cond0_0 f.i) (hc1 : cond0_1 f.i) (xs0 : Vec Ideal S4096x256 .bf16) (xs3 : Vec Ideal S256x4096 .f32) (j : Fin 4096) (d : Fin 256) :
    out0_C_7 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 (ix3 0 j d) = (xs3 (ix2 d j) + f.toPt.inc d j) * ((20 : ℝ) : EReal) := by
  have e : out0_C_7 (F := Ideal) f.c f.i f.a2 f.h2 f.a3 f.h3 f.a4 f.h4 f.a5 f.h5 f.a6 f.h6 f.a7 f.h7 f.a8 f.h8 f.a9 f.h9 f.a10 f.h10 f.a11 f.h11 f.a12 f.h12 f.a13 f.h13 hc0 hc1 f.x0 f.x1 f.x2 f.x3 f.x4 xs0 xs3 = View.canon (Val := Elt Ideal) (s := S1x4096x256) (e := .bf16)
      [⟨Rect.unit (s := S1x4096x256) ![0, 3584, 0] S1x512x256.size inb_S1x4096x256_S1x512x256_0_3584_0, k0_pay11 (F := Ideal) (f.ldD7 xs3)⟩,
        ⟨Rect.unit (s := S1x4096x256) ![0, 3072, 0] S1x512x256.size inb_S1x4096x256_S1x512x256_0_3072_0, k0_pay10 (F := Ideal) (f.ldD6 xs3)⟩,
        ⟨Rect.unit (s := S1x4096x256) ![0, 2560, 0] S1x512x256.size inb_S1x4096x256_S1x512x256_0_2560_0, k0_pay9 (F := Ideal) (f.ldD5 xs3)⟩,
        ⟨Rect.unit (s := S1x4096x256) ![0, 2048, 0] S1x512x256.size inb_S1x4096x256_S1x512x256_0_2048_0, k0_pay8 (F := Ideal) (f.ldD4 xs3)⟩,
        ⟨Rect.unit (s := S1x4096x256) ![0, 1536, 0] S1x512x256.size inb_S1x4096x256_S1x512x256_0_1536_0, k0_pay7 (F := Ideal) (f.ldD3 xs3)⟩,
        ⟨Rect.unit (s := S1x4096x256) ![0, 1024, 0] S1x512x256.size inb_S1x4096x256_S1x512x256_0_1024_0, k0_pay6 (F := Ideal) (f.ldD2 xs3)⟩,
        ⟨Rect.unit (s := S1x4096x256) ![0, 512, 0] S1x512x256.size inb_S1x4096x256_S1x512x256_0_512_0, k0_pay5 (F := Ideal) (f.ldD1 xs3)⟩,
        ⟨Rect.unit (s := S1x4096x256) ![0, 0, 0] S1x512x256.size inb_S1x4096x256_S1x512x256_0_0_0, k0_pay4 (F := Ideal) (f.ldD0 xs3)⟩] :=
    View.read_writes_junk_eq_canon _ _
  rw [e]
  refine Strip.below3 (Val := Elt Ideal) (e := .bf16) 3584 _ (fun j d => (xs3 (ix2 d j) + f.toPt.inc d j) * ((20 : ℝ) : EReal)) _ _ (fun q d _ => f.d7 xs3 q d)
    (Strip.below3 (Val := Elt Ideal) (e := .bf16) 3072 _ (fun j d => (xs3 (ix2 d j) + f.toPt.inc d j) * ((20 : ℝ) : EReal)) _ _ (fun q d _ => f.d6 xs3 q d)
    (Strip.below3 (Val := Elt Ideal) (e := .bf16) 2560 _ (fun j d => (xs3 (ix2 d j) + f.toPt.inc d j) * ((20 : ℝ) : EReal)) _ _ (fun q d _ => f.d5 xs3 q d)
    (Strip.below3 (Val := Elt Ideal) (e := .bf16) 2048 _ (fun j d => (xs3 (ix2 d j) + f.toPt.inc d j) * ((20 : ℝ) : EReal)) _ _ (fun q d _ => f.d4 xs3 q d)
    (Strip.below3 (Val := Elt Ideal) (e := .bf16) 1536 _ (fun j d => (xs3 (ix2 d j) + f.toPt.inc d j) * ((20 : ℝ) : EReal)) _ _ (fun q d _ => f.d3 xs3 q d)
    (Strip.below3 (Val := Elt Ideal) (e := .bf16) 1024 _ (fun j d => (xs3 (ix2 d j) + f.toPt.inc d j) * ((20 : ℝ) : EReal)) _ _ (fun q d _ => f.d2 xs3 q d)
    (Strip.below3 (Val := Elt Ideal) (e := .bf16) 512 _ (fun j d => (xs3 (ix2 d j) + f.toPt.inc d j) * ((20 : ℝ) : EReal)) _ _ (fun q d _ => f.d1 xs3 q d)
    (Strip.below3 (Val := Elt Ideal) (e := .bf16) 0 _ (fun j d => (xs3 (ix2 d j) + f.toPt.inc d j) * ((20 : ℝ) : EReal)) _ _ (fun q d _ => f.d0 xs3 q d) ?_ 512 rfl) 1024 rfl) 1536 rfl) 2048 rfl) 2560 rfl) 3072 rfl) 3584 rfl) 4096 rfl j d j.isLt
  intro j d hj
  exact absurd hj (Nat.not_lt_zero _)

end Full

end Cert.KernelIdeal
-- ==== Proof.Spec.lean ====
/-
The three results as functions of the five arguments, over the extended reals: for each group `g`, the logits
`L[n, j] = 20 · (u_n · v_j)(us_n vs_j) − lq_j`, the loss `log Σ_j e^{L[n, j]} − L[n, n]` (with the row's maximum taken out of the
logarithm), and the two products with the gradient rows.
-/
module

public import Idealize.ShloMosaic.Lib.Pointwise
public import proofs.«01_k».proof.Proof.Math

@[expose] public section

noncomputable section

open Idealize.ShloMosaic

namespace Cert.Spec

/-- The codes of one side: 12 groups of 4096 rows of 256. -/
abbrev Codes := (⟨3, ![12, 4096, 256]⟩ : Shape).Idx → EReal
/-- One number per row. -/
abbrev Rows := (⟨2, ![12, 4096]⟩ : Shape).Idx → EReal

/-- The five arguments. -/
structure Args where
  u : Codes
  us : Rows
  v : Codes
  vs : Rows
  lq : Rows

variable (a : Args)

/-- The logit of row `n` of group `g` against item `j`. -/
def L (g : Fin 12) (n j : Fin 4096) : EReal :=
  (∑ x, a.u (ix3 g n x) * a.v (ix3 g j x)) * (a.us (ix2 g n) * a.vs (ix2 g j)) * ((20 : ℝ) : EReal) - a.lq (ix2 g j)

/-- The gradient of row `n`'s loss by its logit against item `j`. -/
def G (g : Fin 12) (n j : Fin 4096) : EReal := Row.grad (L a g n) n j

/-- The loss of each row. -/
def loss : (⟨3, ![12, 1, 4096]⟩ : Shape).Idx → EReal := fun i => Row.lse (L a (i 0) (i 2)) - L a (i 0) (i 2) (i 2)

/-- The gradient of the rows. -/
def du : Codes := fun i => (∑ j, G a (i 0) (i 1) j * (a.v (ix3 (i 0) j (i 2)) * a.vs (ix2 (i 0) j))) * ((20 : ℝ) : EReal)

/-- The gradient of the items. -/
def dv : Codes := fun i => (∑ n, a.u (ix3 (i 0) n (i 2)) * a.us (ix2 (i 0) n) * G a (i 0) n (i 1)) * ((20 : ℝ) : EReal)

theorem du_apply (g : Fin 12) (n : Fin 4096) (d : Fin 256) :
    du a (ix3 g n d) = (∑ j, G a g n j * (a.v (ix3 g j d) * a.vs (ix2 g j))) * ((20 : ℝ) : EReal) := rfl
theorem dv_apply (g : Fin 12) (j : Fin 4096) (d : Fin 256) :
    dv a (ix3 g j d) = (∑ n, a.u (ix3 g n d) * a.us (ix2 g n) * G a g n j) * ((20 : ℝ) : EReal) := rfl

end Cert.Spec
-- ==== Proof.Points.lean ====
/-
The kernel's three result arrays: each grid point's blocks in terms of the arguments, the item rows held through a group,
the running product summed over a group's row blocks, and what is written back.
-/
module

public import proofs.«01_k».proof.Proof.Cases
public import proofs.«01_k».proof.Proof.Spec
public import proofs.«01_k».proof.Proof.Gen.KernelIdeal.Value
public import Idealize.ShloMosaic.Lib.Pipeline.ValueKit.Held

@[expose] public section

set_option maxRecDepth 16384

noncomputable section

open Idealize.ShloMosaic Idealize.ShloMosaic.TcCoe Idealize.SL.Sem

namespace Cert.KernelIdeal.Points

open Cert.KernelIdeal Cert.KernelIdeal.Gen

variable (m : (ℓ : Loc nD τ sig) → Buf (Elt Ideal) ℓ) (c : Dev nD)

/-- The arguments. -/
def args : Spec.Args where
  u := m ((c : Thread nD τ).loc main_arg0)
  us := m ((c : Thread nD τ).loc main_arg1)
  v := m ((c : Thread nD τ).loc main_arg2)
  vs := m ((c : Thread nD τ).loc main_arg3)
  lq := m ((c : Thread nD τ).loc main_arg4)

/-- The windows' blocks at each point: group `t / 8`, row block `t % 8`. -/
theorem idx : ∀ t : Fin cfg0.N,
    win0_0.index t = ![t.val / 8, t.val % 8, 0] ∧ win0_1.index t = ![t.val / 8, 0, t.val % 8] ∧ win0_2.index t = ![t.val / 8, 0, 0]
    ∧ win0_3.index t = ![t.val / 8, 0, 0] ∧ win0_4.index t = ![t.val / 8, 0, 0] ∧ win0_5.index t = ![t.val / 8, 0, t.val % 8]
    ∧ win0_6.index t = ![t.val / 8, t.val % 8, 0] ∧ win0_7.index t = ![t.val / 8, 0, 0] ∧ (grid0.coords t 1).val = t.val % 8 :=
  (by decide +kernel : ∀ t : Fin grid0.N, _)

theorem lt96 (t : Fin cfg0.N) : t.val < 96 := lt_of_lt_of_eq t.isLt N_0

/-- The group of a point. -/
def grp (t : Fin cfg0.N) : Fin 12 := ⟨t.val / 8, by have := lt96 t; omega⟩
/-- The row of the array a block's row `r` is. -/
def row (t : Fin cfg0.N) (r : Fin 512) : Fin 4096 := ⟨512 * (t.val % 8) + r.val, by omega⟩

theorem i0 (t : Fin cfg0.N) (r : Fin 512) (x : Fin 256) : iblk m c 0 t (ix3 0 r x) = (args m c).u (ix3 (grp t) (row t r) x) := by
  blk_point [iblk, V, idx t, args, grp, row]
theorem i1 (t : Fin cfg0.N) (r : Fin 512) : iblk m c 1 t (ix3 0 0 r) = (args m c).us (ix2 (grp t) (row t r)) := by
  blk_point [iblk, V, idx t, args, grp, row]
theorem i2 (t : Fin cfg0.N) (j : Fin 4096) (x : Fin 256) : iblk m c 2 t (ix3 0 j x) = (args m c).v (ix3 (grp t) j x) := by
  blk_point [iblk, V, idx t, args, grp, row]
theorem i3 (t : Fin cfg0.N) (j : Fin 4096) : iblk m c 3 t (ix3 0 0 j) = (args m c).vs (ix2 (grp t) j) := by
  blk_point [iblk, V, idx t, args, grp, row]
theorem i4 (t : Fin cfg0.N) (j : Fin 4096) : iblk m c 4 t (ix3 0 0 j) = (args m c).lq (ix2 (grp t) j) := by
  blk_point [iblk, V, idx t, args, grp, row]

/-- A point's memrefs and the blocks it reads. -/
noncomputable def full (t : Fin cfg0.N) : Full where
  c := c
  i := grid0.coords t
  a2 := ms0_0 t
  h2 := hs0_0 t
  a3 := ms0_1 t
  h3 := hs0_1 t
  a4 := ms0_2 t
  h4 := hs0_2 t
  a5 := ms0_3 t
  h5 := hs0_3 t
  a6 := ms0_4 t
  h6 := hs0_4 t
  a7 := ms0_5 t
  h7 := hs0_5 t
  a8 := ms0_6 t
  h8 := hs0_6 t
  a9 := ms0_7 t
  h9 := hs0_7 t
  a10 := scM0_0
  h10 := Memref.isWhole_whole _
  a11 := scM0_1
  h11 := Memref.isWhole_whole _
  a12 := scM0_2
  h12 := Memref.isWhole_whole _
  a13 := scM0_3
  h13 := Memref.isWhole_whole _
  x0 := iblk m c 0 t
  x1 := iblk m c 1 t
  x2 := iblk m c 2 t
  x3 := iblk m c 3 t
  x4 := iblk m c 4 t

/-- The logits a point computes are those of its rows. -/
theorem full_L (t : Fin cfg0.N) (r : Fin 512) : (full m c t).toPt.L r = Spec.L (args m c) (grp t) (row t r) := by
  funext j
  exact congrArg₂ (· - ·) (congrArg (· * _) (congrArg₂ (· * ·)
    (Finset.sum_congr rfl fun x _ => congrArg₂ (· * ·) (i0 m c t r x) (i2 m c t j x))
    (congrArg₂ (· * ·) (i1 m c t r) (i3 m c t j)))) (i4 m c t j)

theorem full_own (t : Fin cfg0.N) (r : Fin 512) : (full m c t).toPt.own r = row t r :=
  Fin.ext (congrArg (fun k => 512 * k + r.val) (idx t).2.2.2.2.2.2.2.2)

theorem full_G (t : Fin cfg0.N) (r : Fin 512) (j : Fin 4096) : (full m c t).toPt.G r j = Spec.G (args m c) (grp t) (row t r) j := by
  show Row.grad _ _ _ = Row.grad _ _ _
  rw [full_L, full_own]

/-- What a point adds to its group's running product. -/
def term (t : Fin cfg0.N) (d : Fin 256) (j : Fin 4096) : EReal :=
  ∑ r, (args m c).u (ix3 (grp t) (row t r) d) * (args m c).us (ix2 (grp t) (row t r)) * Spec.G (args m c) (grp t) (row t r) j

theorem full_inc (t : Fin cfg0.N) (d : Fin 256) (j : Fin 4096) : (full m c t).toPt.inc d j = term m c t d j :=
  Finset.sum_congr rfl fun r _ => congrArg₂ (· * ·) (congrArg₂ (· * ·) (i0 m c t r d) (i1 m c t r)) (full_G m c t r j)

/-- The scaled items of group `g`. -/
def items (g : Fin 12) (i : S4096x256.Idx) : EReal := (args m c).v (ix3 g (i 0) (i 1)) * (args m c).vs (ix2 g (i 0))

/-- A component of a point's five contents. -/
theorem comp {A B C D E : Type} {x : A × B × C × D × E} {a b c d e} (h : x = (a, b, c, d, e)) :
    x.1 = a ∧ x.2.1 = b ∧ x.2.2.1 = c ∧ x.2.2.2.1 = d ∧ x.2.2.2.2 = e := by
  subst h; exact ⟨rfl, rfl, rfl, rfl, rfl⟩

/-- The scaled items, written at a group's first point and held through the group. -/
theorem vhat (t : Fin cfg0.N) (i : S4096x256.Idx) : (outsAt0 m c t.val t.isLt).2.2.2.1 i = items m c (grp t) i := by
  have key := Pipeline.eq_of_write_hold_apply (fun n h => (outsAt0 m c n h).2.2.2.1) 8 (fun t i => items m c (grp t) i) ?_ ?_ t i
  · rw [key]
    exact congrArg (fun g => items m c g i) (Fin.ext (by show 8 * (t.val / 8) / 8 = t.val / 8; omega))
  · intro t h0 i
    obtain ⟨j, d, rfl⟩ : ∃ j d, i = ix2 j d := ⟨i 0, i 1, eq_ix2 i⟩
    have h1 : ¬t.val % 8 = 7 := by omega
    show (outsAt0 m c t.val t.isLt).2.2.2.1 (ix2 j d) = _
    refine (congrFun (comp (outsAt0_A m c t h0 h1)).2.2.2.1 (ix2 j d)).trans ?_
    exact ((full m c t).sout_A_0 ((hcond0_0 t).mpr h0) (fun h => h1 ((hcond0_1 t).mp h)) j d).trans
      (congrArg₂ (· * ·) (i2 m c t j d) (i3 m c t j))
  · intro t h0 i
    show (outsAt0 m c t.val t.isLt).2.2.2.1 i = _
    by_cases h1 : t.val % 8 = 7
    · exact congrFun (comp (outsAt0_C m c t h0 h1)).2.2.2.1 i
    · exact congrFun (comp (outsAt0_B m c t h0 h1)).2.2.2.1 i

theorem vhat_pred (t : Fin cfg0.N) (h0 : ¬t.val % 8 = 0) (i : S4096x256.Idx) :
    (outsAt0 m c (t.val - 1) (Nat.lt_of_le_of_lt (Nat.sub_le _ _) t.isLt)).2.2.2.1 i = items m c (grp t) i := by
  rw [vhat m c ⟨t.val - 1, Nat.lt_of_le_of_lt (Nat.sub_le _ _) t.isLt⟩ i]
  exact congrArg (fun g => items m c g i) (Fin.ext (by show (t.val - 1) / 8 = t.val / 8; omega))

/-- The loss a point writes. -/
theorem loss_at (t : Fin cfg0.N) (r : Fin 512) :
    (outsAt0 m c t.val t.isLt).1 (ix3 0 0 r) = Spec.loss (args m c) (ix3 (grp t) 0 (row t r)) := by
  have e : Row.lse ((full m c t).toPt.L r) - (full m c t).toPt.L r ((full m c t).toPt.own r) = Spec.loss (args m c) (ix3 (grp t) 0 (row t r)) := by
    rw [full_L, full_own]; rfl
  by_cases h0 : t.val % 8 = 0
  · have h1 : ¬t.val % 8 = 7 := by omega
    refine (congrFun (comp (outsAt0_A m c t h0 h1)).1 (ix3 0 0 r)).trans ?_
    exact ((full m c t).out_A_5 ((hcond0_0 t).mpr h0) (fun h => h1 ((hcond0_1 t).mp h)) r).trans e
  · by_cases h1 : t.val % 8 = 7
    · refine (congrFun (comp (outsAt0_C m c t h0 h1)).1 (ix3 0 0 r)).trans ?_
      exact ((full m c t).out_C_5 (fun h => h0 ((hcond0_0 t).mp h)) ((hcond0_1 t).mpr h1) _ _ r).trans e
    · refine (congrFun (comp (outsAt0_B m c t h0 h1)).1 (ix3 0 0 r)).trans ?_
      exact ((full m c t).out_B_5 (fun h => h0 ((hcond0_0 t).mp h)) (fun h => h1 ((hcond0_1 t).mp h)) _ _ r).trans e

/-- The row gradients a point writes. -/
theorem du_at (t : Fin cfg0.N) (r : Fin 512) (d : Fin 256) :
    (outsAt0 m c t.val t.isLt).2.1 (ix3 0 r d) = Spec.du (args m c) (ix3 (grp t) (row t r) d) := by
  have e : ∀ w : Fin 4096 → EReal, (∀ j, w j = items m c (grp t) (ix2 j d)) →
      (∑ j, (full m c t).toPt.G r j * w j) * ((20 : ℝ) : EReal) = Spec.du (args m c) (ix3 (grp t) (row t r) d) := fun w hw =>
    congrArg (· * _) (Finset.sum_congr rfl fun j _ => congrArg₂ (· * ·) (full_G m c t r j) (hw j))
  by_cases h0 : t.val % 8 = 0
  · have h1 : ¬t.val % 8 = 7 := by omega
    refine (congrFun (comp (outsAt0_A m c t h0 h1)).2.1 (ix3 0 r d)).trans ?_
    exact ((full m c t).out_A_6 ((hcond0_0 t).mpr h0) (fun h => h1 ((hcond0_1 t).mp h)) r d).trans
      (e _ fun j => congrArg₂ (· * ·) (i2 m c t j d) (i3 m c t j))
  · have hv := fun j => vhat_pred m c t h0 (ix2 j d)
    by_cases h1 : t.val % 8 = 7
    · refine (congrFun (comp (outsAt0_C m c t h0 h1)).2.1 (ix3 0 r d)).trans ?_
      exact ((full m c t).out_C_6 (fun h => h0 ((hcond0_0 t).mp h)) ((hcond0_1 t).mpr h1) _ _ r d).trans (e _ hv)
    · refine (congrFun (comp (outsAt0_B m c t h0 h1)).2.1 (ix3 0 r d)).trans ?_
      exact ((full m c t).out_B_6 (fun h => h0 ((hcond0_0 t).mp h)) (fun h => h1 ((hcond0_1 t).mp h)) _ _ r d).trans (e _ hv)

/-- The running product of a group, at the group's last point: the sum over its row blocks. -/
theorem acc (t : Fin cfg0.N) (ht : t.val % 8 = 7) (d : Fin 256) (j : Fin 4096) :
    (outsAt0 m c t.val t.isLt).2.2.2.2 (ix2 d j)
      = ∑ s : Fin 8, term m c ⟨8 * (t.val / 8) + s.val, Pipeline.run_point_lt_of_flush t ht s⟩ d j := by
  have key := Pipeline.eq_sum_fin_of_reset_step_apply_of_flush (fun n h => (outsAt0 m c n h).2.2.2.2) 8 (fun _ => (0 : EReal))
    (fun t i => term m c t (i 0) (i 1)) ?_ ?_ t ht (ix2 d j)
  · exact key.trans (zero_add _)
  · intro t h0 i
    obtain ⟨d, j, rfl⟩ : ∃ d j, i = ix2 d j := ⟨i 0, i 1, eq_ix2 i⟩
    have h1 : ¬t.val % 8 = 7 := by omega
    show (outsAt0 m c t.val t.isLt).2.2.2.2 (ix2 d j) = _
    refine (congrFun (comp (outsAt0_A m c t h0 h1)).2.2.2.2 (ix2 d j)).trans ?_
    exact ((full m c t).sout_A_3 ((hcond0_0 t).mpr h0) (fun h => h1 ((hcond0_1 t).mp h)) d j).trans
      ((full_inc m c t d j).trans (zero_add _).symm)
  · intro t h0 i
    obtain ⟨d, j, rfl⟩ : ∃ d j, i = ix2 d j := ⟨i 0, i 1, eq_ix2 i⟩
    show (outsAt0 m c t.val t.isLt).2.2.2.2 (ix2 d j) = _
    by_cases h1 : t.val % 8 = 7
    · refine (congrFun (comp (outsAt0_C m c t h0 h1)).2.2.2.2 (ix2 d j)).trans ?_
      exact ((full m c t).sout_C_3 (fun h => h0 ((hcond0_0 t).mp h)) ((hcond0_1 t).mpr h1) _ _ d j).trans
        (congrArg (_ + ·) (full_inc m c t d j))
    · refine (congrFun (comp (outsAt0_B m c t h0 h1)).2.2.2.2 (ix2 d j)).trans ?_
      exact ((full m c t).sout_B_3 (fun h => h0 ((hcond0_0 t).mp h)) (fun h => h1 ((hcond0_1 t).mp h)) _ _ d j).trans
        (congrArg (_ + ·) (full_inc m c t d j))

/-- The item gradients a group's last point writes. -/
theorem dv_at (t : Fin cfg0.N) (ht : t.val % 8 = 7) (j : Fin 4096) (d : Fin 256) :
    (outsAt0 m c t.val t.isLt).2.2.1 (ix3 0 j d) = Spec.dv (args m c) (ix3 (grp t) j d) := by
  have h0 : ¬t.val % 8 = 0 := by omega
  have e : (outsAt0 m c t.val t.isLt).2.2.1 (ix3 0 j d) = (outsAt0 m c t.val t.isLt).2.2.2.2 (ix2 d j) * ((20 : ℝ) : EReal) := by
    refine (congrFun (comp (outsAt0_C m c t h0 ht)).2.2.1 (ix3 0 j d)).trans ?_
    exact ((full m c t).out_C_7 (fun h => h0 ((hcond0_0 t).mp h)) ((hcond0_1 t).mpr ht) _ _ j d).trans
      (congrArg (· * _) ((congrFun (comp (outsAt0_C m c t h0 ht)).2.2.2.2 (ix2 d j)).trans
        ((full m c t).sout_C_3 (fun h => h0 ((hcond0_0 t).mp h)) ((hcond0_1 t).mpr ht) _ _ d j)).symm)
  rw [e, acc m c t ht d j]
  refine congrArg (· * _) ?_
  refine Eq.trans ?_ (Fin.sum_univ_tiles 8 512 rfl _).symm
  refine Finset.sum_congr rfl fun s _ => Finset.sum_congr rfl fun r _ => ?_
  have hg : grp (⟨8 * (t.val / 8) + s.val, Pipeline.run_point_lt_of_flush t ht s⟩ : Fin cfg0.N) = grp t :=
    Fin.ext (by show (8 * (t.val / 8) + s.val) / 8 = t.val / 8; omega)
  have hr : row (⟨8 * (t.val / 8) + s.val, Pipeline.run_point_lt_of_flush t ht s⟩ : Fin cfg0.N) r = ⟨s.val * 512 + r.val, by omega⟩ :=
    Fin.ext (by show 512 * ((8 * (t.val / 8) + s.val) % 8) + r.val = s.val * 512 + r.val; omega)
  rw [hg, hr]
  rfl

/-- The loss array the program leaves. -/
theorem loss_arr : (dats m 0 c).arrAt 5 cfg0.N = Spec.loss (args m c) := by
  refine (dats m 0 c).arrAt_eq_of_covers 5 _ (by decide +kernel) fun t hf y => ?_
  idx_vars y
  obtain rfl : y0 = 0 := Subsingleton.elim _ _
  obtain rfl : y1 = 0 := Subsingleton.elim _ _
  blk_simp
  rw [after0_5, loss_at m c t y2]
  refine congrArg _ ?_
  blk_ext [idx t, grp, row]

/-- The row gradients the program leaves. -/
theorem du_arr : (dats m 0 c).arrAt 6 cfg0.N = Spec.du (args m c) := by
  refine (dats m 0 c).arrAt_eq_of_covers 6 _ (by decide +kernel) fun t hf y => ?_
  idx_vars y
  obtain rfl : y0 = 0 := Subsingleton.elim _ _
  blk_simp
  rw [after0_6, du_at m c t y1 y2]
  refine congrArg _ ?_
  blk_ext [idx t, grp, row]

/-- The item gradients the program leaves. -/
theorem dv_arr : (dats m 0 c).arrAt 7 cfg0.N = Spec.dv (args m c) := by
  refine (dats m 0 c).arrAt_eq_of_covers 7 _ (by decide +kernel) fun t hf y => ?_
  idx_vars y
  obtain rfl : y0 = 0 := Subsingleton.elim _ _
  blk_simp
  rw [after0_7, dv_at m c t ((flush0_7 t).mp hf) y1 y2]
  refine congrArg _ ?_
  blk_ext [idx t, grp, row]

/-- The kernel's program runs and leaves the three results. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_0) = Spec.loss (args m c)
      ∧ r.2.mem ((c.tc : Thread nD τ).loc main_v3_1) = Spec.du (args m c)
      ∧ r.2.mem ((c.tc : Thread nD τ).loc main_v3_2) = Spec.dv (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).1.trans (loss_arr m c), (h c).2.1.trans (du_arr m c), (h c).2.2.1.trans (dv_arr m c), (h c).2.2.2⟩) (Value.run_blocks m ρ)

end Cert.KernelIdeal.Points
-- ==== Proof.RefValue.lean ====
/-
The reference's three results, read at one entry over the extended reals.
-/
module

public import proofs.«01_k».proof.Proof.Spec
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Read

theorem ofBits_neg_inf : Ideal.ofBits FTy.f32 0xFF800000#32 = (⊥ : EReal) := by
  simp [Ideal.ofBits, Ideal.ieee]
theorem ofBits_inf : Ideal.ofBits FTy.f32 0x7F800000#32 = (⊤ : EReal) := by
  simp [Ideal.ofBits, Ideal.ieee]
theorem ofBits_20 : Ideal.ofBits FTy.f32 0x41A00000#32 = ((20 : ℝ) : EReal) := by
  simp [Ideal.ofBits, Ideal.ieee]
  rw [← EReal.coe_mul]
  norm_num

theorem zero : Ideal.ofBits FTy.f32 0x00000000#32 = (0 : EReal) := by
  simp [Ideal.ofBits, Ideal.ieee]
theorem call0_v0 (i : S_.Idx) : val_main_call0_v0 (F := Ideal) i = (0 : EReal) := zero
theorem call2_v0 (i : S_.Idx) : val_main_call2_v0 (F := Ideal) i = (0 : EReal) := zero

/-- The product by 20, at the width it is kept in. -/
theorem mul20 (x : EReal) :
    FloatOps.truncf (F := Ideal) .bf16 bitsLt_bf16_f32 (FloatOps.mulf (F := Ideal) (φ := .f32) x (FloatOps.ofBits (F := Ideal) .f32 0x41A00000#32))
      = x * ((20 : ℝ) : EReal) := congrArg (fun z : EReal => x * z) ofBits_20

/-- The selection on a finite largest logit. -/
theorem guard (x a b : EReal) :
    Scalar.select (FloatOps.cmpf (F := Ideal) (φ := .f32) .olt (FloatOps.hostAbsf (F := Ideal) (φ := .f32) x)
      (FloatOps.ofBits (F := Ideal) .f32 0x7F800000#32)) a b = if max x (-x) < ⊤ then a else b := by
  have h : FloatOps.ofBits (F := Ideal) .f32 0x7F800000#32 = (⊤ : EReal) := ofBits_inf
  rw [h, Ideal.cmpf_def]
  show Scalar.select (Ideal.cmp .olt (max x (-x)) ⊤) a b = _
  by_cases hx : max x (-x) < ⊤
  · rw [if_pos hx]; simp [Scalar.select, Ideal.cmp, hx]
  · rw [if_neg hx]; simp [Scalar.select, Ideal.cmp, hx]

/-- A selection by the comparison of two row numbers. -/
theorem select_own (n j : Fin 4096) (a b : EReal) :
    Scalar.select (IntOp.cmpi CmpIPredicate.eq (BitVec.ofNat 32 n.val) (BitVec.ofNat 32 j.val)) a b = if n = j then a else b := by
  by_cases h : n = j
  · subst h; simp [Scalar.select, IntOp.cmpi]
  · rw [if_neg h]
    have h2 : (BitVec.ofNat 32 n.val == BitVec.ofNat 32 j.val) = false := beq_eq_false_iff_ne.mpr fun e => h (Fin.ext (by
      have := congrArg BitVec.toNat e
      simp only [BitVec.toNat_ofNat] at this
      omega))
    simp [Scalar.select, IntOp.cmpi, h2]

/-! ## Over any widened codes `r0`, `r1` -/

section

variable (x1 x3 x4 : FVec Ideal S12x4096 .f32) (r0 r1 : FVec Ideal S12x4096x256 .bf16)

/-- The arguments, the codes as the first step leaves them. -/
abbrev of : Spec.Args := ⟨r0, x1, r1, x3, x4⟩

theorem v20 (g : Fin 12) (n j : Fin 4096) :
    val_main_v20 (F := Ideal) x1 x3 x4 r0 r1 (ix3 g n j) = Spec.L (of x1 x3 x4 r0 r1) g n j := by
  pointwise [val_main_v20, val_main_v19, val_main_v18, val_main_v17, val_main_v16, val_main_cst, val_main_v15, val_main_v14,
    val_main_v13, val_main_v12, val_main_v11, val_main_v10, val_main_v9, ofBits_20]
  rfl

theorem v21 (g : Fin 12) (n : Fin 4096) :
    val_main_v21 (F := Ideal) x1 x3 x4 r0 r1 (ix2 g n) = Row.top (Spec.L (of x1 x3 x4 r0 r1) g n) := by
  have h : (fun k : Fin 4096 => val_main_v20 (F := Ideal) x1 x3 x4 r0 r1 (ix3 g n k)) = Spec.L (of x1 x3 x4 r0 r1) g n :=
    funext fun k => v20 x1 x3 x4 r0 r1 g n k
  rw [← h]
  pointwise [val_main_v21, val_main_cst_0, ofBits_neg_inf]
  rfl

theorem v25 (g : Fin 12) (n j : Fin 4096) :
    val_main_v25 (F := Ideal) x1 x3 x4 r0 r1 (ix3 g n j) = Row.e (Spec.L (of x1 x3 x4 r0 r1) g n) j := by
  have e : val_main_v25 (F := Ideal) x1 x3 x4 r0 r1 (ix3 g n j)
      = Ideal.exp (val_main_v20 (F := Ideal) x1 x3 x4 r0 r1 (ix3 g n j) - val_main_v21 (F := Ideal) x1 x3 x4 r0 r1 (ix2 g n)) := by
    pointwise [val_main_v25, val_main_v24, val_main_v23, val_main_v22]
  rw [e, v20, v21]
  rfl

theorem v28 (g : Fin 12) (n : Fin 4096) :
    val_main_v28 (F := Ideal) x1 x3 x4 r0 r1 (ix2 g n) = Row.lse (Spec.L (of x1 x3 x4 r0 r1) g n) := by
  have e : val_main_v28 (F := Ideal) x1 x3 x4 r0 r1 (ix2 g n)
      = Ideal.log (∑ k, val_main_v25 (F := Ideal) x1 x3 x4 r0 r1 (ix3 g n k)) + val_main_v21 (F := Ideal) x1 x3 x4 r0 r1 (ix2 g n) := by
    pointwise [val_main_v28, val_main_v27, val_main_v26, val_main_cst_1]
  rw [e, v21]
  exact congrArg (fun z => Ideal.log z + _) (Finset.sum_congr rfl fun k _ => v25 x1 x3 x4 r0 r1 g n k)

theorem v37 (g : Fin 12) (n : Fin 4096) :
    val_main_v37 (F := Ideal) x1 x3 x4 r0 r1 (ix2 g n) = Spec.L (of x1 x3 x4 r0 r1) g n n := by
  have e : val_main_v37 (F := Ideal) x1 x3 x4 r0 r1 (ix2 g n)
      = ∑ k, if n = k then val_main_v20 (F := Ideal) x1 x3 x4 r0 r1 (ix3 g n k) else 0 := by
    pointwise [val_main_v37, val_main_cst_3, val_main_v36, val_main_call0_v2, val_main_call0_v1,
      val_main_v35, val_main_v34, val_main_v33, val_main_v32, val_main_v31, val_main_v30, val_main_v29, select_own]
    simp only [call0_v0]
  rw [e, Finset.sum_ite_eq, if_pos (Finset.mem_univ _), v20]

theorem v58 : val_main_v58 (F := Ideal) x1 x3 x4 r0 r1 = Spec.loss (of x1 x3 x4 r0 r1) := by
  funext i
  idx_vars i
  have e : val_main_v58 (F := Ideal) x1 x3 x4 r0 r1 (ix3 i0 i1 i2)
      = val_main_v28 (F := Ideal) x1 x3 x4 r0 r1 (ix2 i0 i2) - val_main_v37 (F := Ideal) x1 x3 x4 r0 r1 (ix2 i0 i2) := by
    pointwise [val_main_v58, val_main_v38]
  rw [e, v28, v37]
  rfl

theorem v42 (g : Fin 12) (n j : Fin 4096) :
    val_main_v42 (F := Ideal) x1 x3 x4 r0 r1 (ix3 g n j)
      = Ideal.exp (Spec.L (of x1 x3 x4 r0 r1) g n j - Row.lse (Spec.L (of x1 x3 x4 r0 r1) g n)) := by
  have e : val_main_v42 (F := Ideal) x1 x3 x4 r0 r1 (ix3 g n j)
      = Ideal.exp (val_main_v20 (F := Ideal) x1 x3 x4 r0 r1 (ix3 g n j) - val_main_v28 (F := Ideal) x1 x3 x4 r0 r1 (ix2 g n)) := by
    pointwise [val_main_v42, val_main_v41, val_main_v40, val_main_v39]
  rw [e, v20, v28]

theorem own_apply (n j : Fin 4096) :
    val_main_v35 (F := Ideal) (ix3 0 n j) = IntOp.cmpi CmpIPredicate.eq (BitVec.ofNat 32 n.val) (BitVec.ofNat 32 j.val) := by
  pointwise [val_main_v35, val_main_v34, val_main_v33, val_main_v32, val_main_v31, val_main_v30, val_main_v29]

theorem v45 (g : Fin 12) (n j : Fin 4096) :
    val_main_v45 (F := Ideal) x1 x3 x4 r0 r1 (ix3 g n j)
      = if n = j then val_main_v42 (F := Ideal) x1 x3 x4 r0 r1 (ix3 g n j) - 1 else val_main_v42 (F := Ideal) x1 x3 x4 r0 r1 (ix3 g n j) := by
  pointwise [val_main_v45, val_main_call1_v0, val_main_v44, val_main_v43, val_main_cst_4, own_apply, select_own]

theorem v49 (g : Fin 12) (n : Fin 4096) :
    val_main_v49 (F := Ideal) x1 x3 x4 r0 r1 (ix3 g n 0)
      = FloatOps.cmpf (F := Ideal) (φ := .f32) .olt (FloatOps.hostAbsf (F := Ideal) (φ := .f32) (val_main_v21 (F := Ideal) x1 x3 x4 r0 r1 (ix2 g n)))
        (FloatOps.ofBits (F := Ideal) .f32 0x7F800000#32) := by
  have h : idx_main_v49 (ix3 g n 0) = ix2 g n := by
    funext a; match a with | ⟨0, _⟩ => rfl | ⟨1, _⟩ => rfl
  rw [val_main_v49_apply, h, val_main_v48_apply, val_main_v47_apply, val_main_cst_5_apply, val_main_v46_apply]

theorem v51e (g : Fin 12) (n j : Fin 4096) :
    val_main_v51 (F := Ideal) x1 x3 x4 r0 r1 (ix3 g n j)
      = Scalar.select (val_main_v49 (F := Ideal) x1 x3 x4 r0 r1 (ix3 g n 0)) (val_main_v45 (F := Ideal) x1 x3 x4 r0 r1 (ix3 g n j))
        (val_main_call2_v0 (F := Ideal) ix0) := by
  pointwise [val_main_v51, val_main_v50, val_main_call2_v2, val_main_call2_v1]

theorem v51 (g : Fin 12) (n j : Fin 4096) :
    val_main_v51 (F := Ideal) x1 x3 x4 r0 r1 (ix3 g n j) = Spec.G (of x1 x3 x4 r0 r1) g n j := by
  rw [v51e, v49, guard, call2_v0, v45, v42, v21, Spec.G, Row.grad]

theorem v8 (g : Fin 12) (j : Fin 4096) (d : Fin 256) :
    val_main_v8 (F := Ideal) x3 r1 (ix3 g j d) = r1 (ix3 g j d) * x3 (ix2 g j) := by
  pointwise [val_main_v8, val_main_v7, val_main_v6, val_main_v5]

theorem v4 (g : Fin 12) (n : Fin 4096) (d : Fin 256) :
    val_main_v4 (F := Ideal) x1 r0 (ix3 g n d) = r0 (ix3 g n d) * x1 (ix2 g n) := by
  pointwise [val_main_v4, val_main_v3, val_main_v2, val_main_v1]

theorem v52 (g : Fin 12) (n : Fin 4096) (d : Fin 256) :
    val_main_v52 (F := Ideal) x1 x3 x4 r0 r1 (ix3 g n d)
      = ∑ j, val_main_v51 (F := Ideal) x1 x3 x4 r0 r1 (ix3 g n j) * val_main_v8 (F := Ideal) x3 r1 (ix3 g j d) := by
  rw [val_main_v52_apply]
  refine Finset.sum_congr rfl fun j _ => congrArg₂ (· * ·) (congrArg _ ?_) (congrArg _ ?_)
  · funext a; match a with | ⟨0, _⟩ => rfl | ⟨1, _⟩ => rfl | ⟨2, _⟩ => rfl
  · funext a; match a with | ⟨0, _⟩ => rfl | ⟨1, _⟩ => rfl | ⟨2, _⟩ => rfl

theorem v55 (g : Fin 12) (j : Fin 4096) (d : Fin 256) :
    val_main_v55 (F := Ideal) x1 x3 x4 r0 r1 (ix3 g j d)
      = ∑ n, val_main_v51 (F := Ideal) x1 x3 x4 r0 r1 (ix3 g n j) * val_main_v4 (F := Ideal) x1 r0 (ix3 g n d) := by
  rw [val_main_v55_apply]
  refine Finset.sum_congr rfl fun j _ => congrArg₂ (· * ·) (congrArg _ ?_) (congrArg _ ?_)
  · funext a; match a with | ⟨0, _⟩ => rfl | ⟨1, _⟩ => rfl | ⟨2, _⟩ => rfl
  · funext a; match a with | ⟨0, _⟩ => rfl | ⟨1, _⟩ => rfl | ⟨2, _⟩ => rfl

theorem v59 : val_main_v59 (F := Ideal) x1 x3 x4 r0 r1 = Spec.du (of x1 x3 x4 r0 r1) := by
  funext i
  idx_vars i
  rw [val_main_v59_apply, val_main_v54_apply, val_main_v53_apply, val_main_cst_7_apply, mul20, v52, Spec.du_apply]
  simp only [v51, v8]

theorem v60 : val_main_v60 (F := Ideal) x1 x3 x4 r0 r1 = Spec.dv (of x1 x3 x4 r0 r1) := by
  funext i
  idx_vars i
  rw [val_main_v60_apply, val_main_v57_apply, val_main_v56_apply, val_main_cst_8_apply, mul20, v55, Spec.dv_apply]
  simp only [v51, v4]
  refine congrArg (fun z : EReal => z * ((20 : ℝ) : EReal)) (Finset.sum_congr rfl fun n _ => mul_comm _ _)

end

/-! ## The widened codes -/

variable (m : (ℓ : Loc nD τ sig) → Buf (Elt Ideal) ℓ) (c : Dev nD)

/-- The arguments. -/
def args : Spec.Args where
  u := m ((c : Thread nD τ).loc main_arg0)
  us := m ((c : Thread nD τ).loc main_arg1)
  v := m ((c : Thread nD τ).loc main_arg2)
  vs := m ((c : Thread nD τ).loc main_arg3)
  lq := m ((c : Thread nD τ).loc main_arg4)

theorem zeros3 : (![0, 0, 0] : Fin 3 → ℕ) = fun _ => 0 := by decide

theorem out2 (x0 x1 : Vec Ideal S12x4096x256 .fp8e4m3) : out0_2 (F := Ideal) x0 x1 = x0 := by
  unfold out0_2
  rw [View.canon_unit_zero (S := S12x4096x256) zeros3, View.ld_unit_zero (S := S12x4096x256) zeros3]
  rfl

theorem out3 (x0 x1 : Vec Ideal S12x4096x256 .fp8e4m3) : out0_3 (F := Ideal) x0 x1 = x1 := by
  unfold out0_3
  rw [View.canon_unit_zero (S := S12x4096x256) zeros3, View.ld_unit_zero (S := S12x4096x256) zeros3]
  rfl

theorem idx : ∀ t : Fin cfg0.N, win0_0.index t = ![0, 0, 0] ∧ win0_1.index t = ![0, 0, 0] ∧ win0_2.index t = ![0, 0, 0] ∧ win0_3.index t = ![0, 0, 0] :=
  (by decide +kernel : ∀ t : Fin grid0.N, _)

theorem wide_u : Value.reg_main_v0_0 m c = (args m c).u := by
  refine (dats m 0 c).arrAt_eq_of_covers 2 _ (by decide +kernel) fun t hf y => ?_
  blk_simp
  rw [after0_2, out2]
  blk_point [iblk, V, idx t, args]

theorem wide_v : Value.reg_main_v0_1 m c = (args m c).v := by
  refine (dats m 0 c).arrAt_eq_of_covers 3 _ (by decide +kernel) fun t hf y => ?_
  blk_simp
  rw [after0_3, out3]
  blk_point [iblk, V, idx t, args]

theorem loss_eq : val_main_v58 (F := Ideal) (Value.exitV m c (Proc.devRef .tc main_arg1)) (Value.exitV m c (Proc.devRef .tc main_arg3)) (Value.exitV m c (Proc.devRef .tc main_arg4)) (Value.exitV m c (Proc.devRef .tc main_v0_0)) (Value.exitV m c (Proc.devRef .tc main_v0_1))
    = Spec.loss (args m c) := by
  rw [Value.exit_main_arg1, Value.exit_main_arg3, Value.exit_main_arg4, Value.exit_main_v0_0, Value.exit_main_v0_1, wide_u, wide_v]
  exact v58 _ _ _ _ _

theorem du_eq : val_main_v59 (F := Ideal) (Value.exitV m c (Proc.devRef .tc main_arg1)) (Value.exitV m c (Proc.devRef .tc main_arg3)) (Value.exitV m c (Proc.devRef .tc main_arg4)) (Value.exitV m c (Proc.devRef .tc main_v0_0)) (Value.exitV m c (Proc.devRef .tc main_v0_1))
    = Spec.du (args m c) := by
  rw [Value.exit_main_arg1, Value.exit_main_arg3, Value.exit_main_arg4, Value.exit_main_v0_0, Value.exit_main_v0_1, wide_u, wide_v]
  exact v59 _ _ _ _ _

theorem dv_eq : val_main_v60 (F := Ideal) (Value.exitV m c (Proc.devRef .tc main_arg1)) (Value.exitV m c (Proc.devRef .tc main_arg3)) (Value.exitV m c (Proc.devRef .tc main_arg4)) (Value.exitV m c (Proc.devRef .tc main_v0_0)) (Value.exitV m c (Proc.devRef .tc main_v0_1))
    = Spec.dv (args m c) := by
  rw [Value.exit_main_arg1, Value.exit_main_arg3, Value.exit_main_arg4, Value.exit_main_v0_0, Value.exit_main_v0_1, wide_u, wide_v]
  exact v60 _ _ _ _ _

/-- The reference runs and leaves the three results. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v58) = Spec.loss (args m c)
      ∧ r.2.mem ((c.tc : Thread nD τ).loc main_v59) = Spec.du (args m c)
      ∧ r.2.mem ((c.tc : Thread nD τ).loc main_v60) = Spec.dv (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).1.trans ((val_main_v58_eq (Value.exitV m c)).trans (loss_eq m c)),
      (h c).2.1.trans ((val_main_v59_eq (Value.exitV m c)).trans (du_eq m c)),
      (h c).2.2.1.trans ((val_main_v60_eq (Value.exitV m c)).trans (dv_eq m c)), (h c).2.2.2⟩) (Value.run m ρ)

end Cert.ReferenceIdeal.RefValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ReferenceIdeal.Frame
public import proofs.«01_k».proof.Proof.Points
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

theorem preserves : preserves_Kernel_KernelIdeal :=
  ⟨IdealRules.named_const.statement Cert.KernelIdeal.κ "inv_tau_log2e" .f32 0x41E6D4CA#32 ((20 * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

/-- Equal arguments give the two programs the same five arrays. -/
theorem args_eq {m : (ℓ : Loc KernelIdeal.nD KernelIdeal.τ KernelIdeal.sig) → Buf (Elt Ideal) ℓ}
    {m' : (ℓ : Loc ReferenceIdeal.nD ReferenceIdeal.τ ReferenceIdeal.sig) → Buf (Elt Ideal) ℓ} (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)) :
    ReferenceIdeal.RefValue.args m' c = KernelIdeal.Points.args m c := by
  obtain ⟨h0, h1, h2, h3, h4⟩ := h
  unfold ReferenceIdeal.RefValue.args KernelIdeal.Points.args
  congr 1

theorem algebraic : algebraic_KernelIdeal_ReferenceIdeal (hKernelIdeal := KernelIdeal.Gen.facts) (hReferenceIdeal := ReferenceIdeal.Gen.facts) := by
  intro m g m' g' _ hag
  refine ⟨fun c => Spec.loss (KernelIdeal.Points.args m c), fun c => Spec.du (KernelIdeal.Points.args m c),
    fun c => Spec.dv (KernelIdeal.Points.args m c), KernelIdeal.Points.run m g, ?_⟩
  refine (θ_run _ _ _).mono (fun _ h c => ?_) (ReferenceIdeal.RefValue.run m' g')
  have e := args_eq c (hag c)
  exact ⟨(h c).1.trans (congrArg Spec.loss e), (h c).2.1.trans (congrArg Spec.du e), (h c).2.2.1.trans (congrArg Spec.dv e),
    (h c).2.2.2⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, preserves, algebraic⟩

end Cert.Proof

end
